-- ==== Defs.lean ====
def Pre_Kernel [hPre_even_Kernel : Cert.Pre_even_Kernel.Facts] (m : (ℓ : Loc Cert.Kernel.nD Cert.Kernel.τ Cert.Kernel.sig) → Buf (Elt Bits) ℓ) : Prop :=
  ∀ c : Dev Cert.Kernel.nD,
    (Cert.Pre_even_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_even_Kernel : Cert.Pre_even_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_even_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_ReferenceIdeal [hPre_even_ReferenceIdeal : Cert.Pre_even_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_even_Kernel : Cert.Pre_even_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even_ReferenceIdeal [hReferenceIdeal : Cert.ReferenceIdeal.Facts] [hPre_even_ReferenceIdeal : Cert.Pre_even_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_even_Kernel : Cert.Pre_even_Kernel.Facts) (hPre_even_ReferenceIdeal : Cert.Pre_even_ReferenceIdeal.Facts),
    quiescent_Kernel (hKernel := hKernel) (hPre_even_Kernel := hPre_even_Kernel)
    ∧ quiescent_KernelIdeal (hKernelIdeal := hKernelIdeal) (hPre_even_Kernel := hPre_even_Kernel)
    ∧ quiescent_ReferenceIdeal (hReferenceIdeal := hReferenceIdeal)
    ∧ quiescent_ReferenceIdeal_pre_even_ReferenceIdeal (hReferenceIdeal := hReferenceIdeal) (hPre_even_ReferenceIdeal := hPre_even_ReferenceIdeal)
    ∧ preserves_Kernel_KernelIdeal
    ∧ algebraic_KernelIdeal_ReferenceIdeal (hKernelIdeal := hKernelIdeal) (hReferenceIdeal := hReferenceIdeal) (hPre_even_Kernel := hPre_even_Kernel)
-- ==== Pre_even_Kernel.lean ====
abbrev S1024x512 : Shape := ⟨2, ![1024, 512]⟩
abbrev S1024 : Shape := ⟨1, ![1024]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S_ : Shape := ⟨0, ![]⟩

class Facts : Prop where
  bcast_S1024_S1024x1_0 : S1024.BroadcastsInDim S1024x1 (![0] : Fin 1 → Fin S1024x1.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  natLt_1_32 : 1 < 32
  reducesTo_S1024x16_S16_d0 : S1024x16.ReducesTo [0] S16
  h_S_ : 0 < S_.numel
  bcast_S_S16 : S_.BroadcastsInDim S16 (![] : Fin 0 → Fin S16.rank)

variable [Facts]

def fn {F : FTy → Type} [FloatOps F] (main_arg0 : FVec F S1024x512 .bf16) (main_arg1 : IVec S1024 32) : IVec S16 1 :=
  let main_v0 : IVec S16 32 := iotaInDim S16 32 0
  let main_v1 : IVec S1024x1 32 := broadcastInDim S1024x1 ![0] bcast_S1024_S1024x1_0 main_arg1
  let main_v2 : IVec S1x16 32 := broadcastInDim S1x16 ![1] bcast_S16_S1x16_1 main_v0
  let main_v3 : IVec S1024x16 32 := broadcastInDim S1024x16 ![0, 1] bcast_S1024x1_S1024x16_0_1 main_v1
  let main_v4 : IVec S1024x16 32 := broadcastInDim S1024x16 ![0, 1] bcast_S1x16_S1024x16_0_1 main_v2
  let main_v5 : IVec S1024x16 1 := cmpi .eq main_v3 main_v4
  let main_v6 : IVec S1024x16 32 := (extui 32 · natLt_1_32) main_v5
  let main_c : IVec S_ 32 := constantI S_ 32 0#32
  let main_v7 : IVec S16 32 := (fun x v => Host.reduce IntOp.addi x v reducesTo_S1024x16_S16_d0 h_S_) main_v6 main_c
  let main_c_0 : IVec S_ 32 := constantI S_ 32 64#32
  let main_v8 : IVec S16 32 := broadcastInDim S16 ![] bcast_S_S16 main_c_0
  let main_v9 : IVec S16 1 := cmpi .eq main_v7 main_v8
  main_v9
-- ==== Pre_even_ReferenceIdeal.lean ====
abbrev S16384x512 : Shape := ⟨2, ![16384, 512]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S_ : Shape := ⟨0, ![]⟩

class Facts : Prop where
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  reducesTo_S16384x16_S16_d0 : S16384x16.ReducesTo [0] S16
  h_S_ : 0 < S_.numel
  bcast_S_S16 : S_.BroadcastsInDim S16 (![] : Fin 0 → Fin S16.rank)

variable [Facts]

def fn {F : FTy → Type} [FloatOps F] (main_arg0 : FVec F S16384x512 .bf16) (main_arg1 : IVec S16384 32) : IVec S16 1 :=
  let main_v0 : IVec S16 32 := iotaInDim S16 32 0
  let main_v1 : IVec S16384x1 32 := broadcastInDim S16384x1 ![0] bcast_S16384_S16384x1_0 main_arg1
  let main_v2 : IVec S1x16 32 := broadcastInDim S1x16 ![1] bcast_S16_S1x16_1 main_v0
  let main_v3 : IVec S16384x16 32 := broadcastInDim S16384x16 ![0, 1] bcast_S16384x1_S16384x16_0_1 main_v1
  let main_v4 : IVec S16384x16 32 := broadcastInDim S16384x16 ![0, 1] bcast_S1x16_S16384x16_0_1 main_v2
  let main_v5 : IVec S16384x16 1 := cmpi .eq main_v3 main_v4
  let main_v6 : IVec S16384x16 32 := (extui 32 · natLt_1_32) main_v5
  let main_c : IVec S_ 32 := constantI S_ 32 0#32
  let main_v7 : IVec S16 32 := (fun x v => Host.reduce IntOp.addi x v reducesTo_S16384x16_S16_d0 h_S_) main_v6 main_c
  let main_c_0 : IVec S_ 32 := constantI S_ 32 64#32
  let main_v8 : IVec S16 32 := broadcastInDim S16 ![] bcast_S_S16 main_c_0
  let main_v9 : IVec S16 1 := cmpi .eq main_v7 main_v8
  main_v9
-- ==== Kernel.lean ====
abbrev S1024x512 : Shape := ⟨2, ![1024, 512]⟩
abbrev S1024 : Shape := ⟨1, ![1024]⟩
abbrev S1024x1 : Shape := ⟨2, ![1024, 1]⟩
abbrev S16 : Shape := ⟨1, ![16]⟩
abbrev S1x16 : Shape := ⟨2, ![1, 16]⟩
abbrev S1024x16 : Shape := ⟨2, ![1024, 16]⟩
abbrev S_ : Shape := ⟨0, ![]⟩
abbrev S8x128 : Shape := ⟨2, ![8, 128]⟩
abbrev S1 : Shape := ⟨1, ![1]⟩
abbrev S2 : Shape := ⟨1, ![2]⟩
abbrev S1024x4x128 : Shape := ⟨3, ![1024, 4, 128]⟩
abbrev S16x128 : Shape := ⟨2, ![16, 128]⟩
abbrev S4 : Shape := ⟨1, ![4]⟩
abbrev S1x128 : Shape := ⟨2, ![1, 128]⟩
abbrev S2x128 : Shape := ⟨2, ![2, 128]⟩
abbrev S4x128 : Shape := ⟨2, ![4, 128]⟩
abbrev S128 : Shape := ⟨1, ![128]⟩
abbrev S1x1 : Shape := ⟨2, ![1, 1]⟩
abbrev S1x4x128 : Shape := ⟨3, ![1, 4, 128]⟩

abbrev nBuf : Space → Nat
  | .hbm => 32
  | .vmem => 5
  | .smem => 2
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S1024x1, .i32⟩
  | .hbm, ⟨3, _⟩ => ⟨S16, .i32⟩
  | .hbm, ⟨4, _⟩ => ⟨S1x16, .i32⟩
  | .hbm, ⟨5, _⟩ => ⟨S1024x16, .i32⟩
  | .hbm, ⟨6, _⟩ => ⟨S1024x16, .i32⟩
  | .hbm, ⟨7, _⟩ => ⟨S1024x16, .i1⟩
  | .hbm, ⟨8, _⟩ => ⟨S1024x16, .i32⟩
  | .hbm, ⟨9, _⟩ => ⟨S_, .i32⟩
  | .hbm, ⟨10, _⟩ => ⟨S_, .i32⟩
  | .hbm, ⟨11, _⟩ => ⟨S1024x16, .i32⟩
  | .hbm, ⟨12, _⟩ => ⟨S1024x16, .i32⟩
  | .hbm, ⟨13, _⟩ => ⟨S1024x16, .i32⟩
  | .hbm, ⟨14, _⟩ => ⟨S_, .i32⟩
  | .hbm, ⟨15, _⟩ => ⟨S1024, .i32⟩
  | .hbm, ⟨16, _⟩ => ⟨S_, .i32⟩
  | .hbm, ⟨17, _⟩ => ⟨S16, .i32⟩
  | .hbm, ⟨18, _⟩ => ⟨S_, .i32⟩
  | .hbm, ⟨19, _⟩ => ⟨S8x128, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S8x128, .i32⟩
  | .hbm, ⟨26, _⟩ => ⟨S8x128, .i32⟩
  | .hbm, ⟨27, _⟩ => ⟨S8x128, .i32⟩
  | .hbm, ⟨28, _⟩ => ⟨S1024x4x128, .bf16⟩
  | .hbm, ⟨29, _⟩ => ⟨S1024x4x128, .bf16⟩
  | .hbm, ⟨30, _⟩ => ⟨S1024x512, .bf16⟩
  | .hbm, ⟨31, _⟩ => ⟨S1024x512, .f32⟩
  | .local _ .vmem, ⟨0, _⟩ => ⟨S8x128, .i32⟩
  | .local _ .vmem, ⟨1, _⟩ => ⟨S8x128, .i32⟩
  | .local _ .vmem, ⟨2, _⟩ => ⟨S8x128, .i32⟩
  | .local _ .vmem, ⟨3, _⟩ => ⟨S16x128, .i32⟩
  | .local _ .vmem, ⟨4, _⟩ => ⟨S8x128, .i32⟩
  | .local _ .smem, ⟨0, _⟩ => ⟨S8x128, .i32⟩
  | .local _ .smem, ⟨1, _⟩ => ⟨S8x128, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_call0_c : Ref sig .tc := ⟨.hbm, 9, rfl⟩
abbrev main_call0_call0_v0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch2 : Ref sig .tc := ⟨.vmem, 4, rfl⟩
abbrev cc0_stg3_0 : Ref sig .tc := ⟨.smem, 0, rfl⟩
abbrev cc0_scratch1 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_153 : BitVec 32 := 0#32
  let c0_i32_151 : BitVec 32 := 0#32
  let c1_i32_152 : BitVec 32 := 1#32
  let v287 : BitVec 32 := Scalar.muli c0_i32_151 c1_i32_152
  let v288 : BitVec 32 := Scalar.addi c0_i32_153 v287
  v288.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_153 : BitVec 32 := 0#32
  let c1_i32_151 : BitVec 32 := 1#32
  let c1_i32_152 : BitVec 32 := 1#32
  let v287 : BitVec 32 := Scalar.muli c1_i32_151 c1_i32_152
  let v288 : BitVec 32 := Scalar.addi c0_i32_153 v287
  v288.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_153 : BitVec 32 := 0#32
  let c2_i32_151 : BitVec 32 := 2#32
  let c1_i32_152 : BitVec 32 := 1#32
  let v287 : BitVec 32 := Scalar.muli c2_i32_151 c1_i32_152
  let v288 : BitVec 32 := Scalar.addi c0_i32_153 v287
  v288.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_153 : BitVec 32 := 0#32
  let c3_i32_151 : BitVec 32 := 3#32
  let c1_i32_152 : BitVec 32 := 1#32
  let v287 : BitVec 32 := Scalar.muli c3_i32_151 c1_i32_152
  let v288 : BitVec 32 := Scalar.addi c0_i32_153 v287
  v288.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_153 : BitVec 32 := 0#32
  let c4_i32_151 : BitVec 32 := 4#32
  let c1_i32_152 : BitVec 32 := 1#32
  let v287 : BitVec 32 := Scalar.muli c4_i32_151 c1_i32_152
  let v288 : BitVec 32 := Scalar.addi c0_i32_153 v287
  v288.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_153 : BitVec 32 := 0#32
  let c5_i32_151 : BitVec 32 := 5#32
  let c1_i32_152 : BitVec 32 := 1#32
  let v287 : BitVec 32 := Scalar.muli c5_i32_151 c1_i32_152
  let v288 : BitVec 32 := Scalar.addi c0_i32_153 v287
  v288.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_153 : BitVec 32 := 0#32
  let c6_i32_151 : BitVec 32 := 6#32
  let c1_i32_152 : BitVec 32 := 1#32
  let v287 : BitVec 32 := Scalar.muli c6_i32_151 c1_i32_152
  let v288 : BitVec 32 := Scalar.addi c0_i32_153 v287
  v288.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_153 : BitVec 32 := 0#32
  let c7_i32_151 : BitVec 32 := 7#32
  let c1_i32_152 : BitVec 32 := 1#32
  let v287 : BitVec 32 := Scalar.muli c7_i32_151 c1_i32_152
  let v288 : BitVec 32 := Scalar.addi c0_i32_153 v287
  v288.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_153 : BitVec 32 := 0#32
  let c8_i32_151 : BitVec 32 := 8#32
  let c1_i32_152 : BitVec 32 := 1#32
  let v287 : BitVec 32 := Scalar.muli c8_i32_151 c1_i32_152
  let v288 : BitVec 32 := Scalar.addi c0_i32_153 v287
  v288.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_153 : BitVec 32 := 0#32
  let c9_i32_151 : BitVec 32 := 9#32
  let c1_i32_152 : BitVec 32 := 1#32
  let v287 : BitVec 32 := Scalar.muli c9_i32_151 c1_i32_152
  let v288 : BitVec 32 := Scalar.addi c0_i32_153 v287
  v288.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_153 : BitVec 32 := 0#32
  let c10_i32_151 : BitVec 32 := 10#32
  let c1_i32_152 : BitVec 32 := 1#32
  let v287 : BitVec 32 := Scalar.muli c10_i32_151 c1_i32_152
  let v288 : BitVec 32 := Scalar.addi c0_i32_153 v287
  v288.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_153 : BitVec 32 := 0#32
  let c11_i32_151 : BitVec 32 := 11#32
  let c1_i32_152 : BitVec 32 := 1#32
  let v287 : BitVec 32 := Scalar.muli c11_i32_151 c1_i32_152
  let v288 : BitVec 32 := Scalar.addi c0_i32_153 v287
  v288.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_153 : BitVec 32 := 0#32
  let c12_i32_151 : BitVec 32 := 12#32
  let c1_i32_152 : BitVec 32 := 1#32
  let v287 : BitVec 32 := Scalar.muli c12_i32_151 c1_i32_152
  let v288 : BitVec 32 := Scalar.addi c0_i32_153 v287
  v288.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_153 : BitVec 32 := 0#32
  let c13_i32_151 : BitVec 32 := 13#32
  let c1_i32_152 : BitVec 32 := 1#32
  let v287 : BitVec 32 := Scalar.muli c13_i32_151 c1_i32_152
  let v288 : BitVec 32 := Scalar.addi c0_i32_153 v287
  v288.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_153 : BitVec 32 := 0#32
  let c14_i32_151 : BitVec 32 := 14#32
  let c1_i32_152 : BitVec 32 := 1#32
  let v287 : BitVec 32 := Scalar.muli c14_i32_151 c1_i32_152
  let v288 : BitVec 32 := Scalar.addi c0_i32_153 v287
  v288.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_153 : BitVec 32 := 0#32
  let c15_i32_151 : BitVec 32 := 15#32
  let c1_i32_152 : BitVec 32 := 1#32
  let v287 : BitVec 32 := Scalar.muli c15_i32_151 c1_i32_152
  let v288 : BitVec 32 := Scalar.addi c0_i32_153 v287
  v288.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v54 : Index := Scalar.indexCast v2
  let c0_19 : Index := 0#32
  ![v54.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_20 : BitVec 32 := 15#32
  let v58 : BitVec 32 := Scalar.andi v2 c15_i32_20
  let c0_i32_27 : BitVec 32 := 0#32
  ![v58.toNat, 0]
def k0_dev17 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v60 : BitVec 32 := Scalar.xori v2 c1_i32_22
  let c1_i32_25 : BitVec 32 := 1#32
  let v61 : BitVec 32 := Scalar.muli v60 c1_i32_25
  let v62 : BitVec 32 := Scalar.addi c0_i32_26 v61
  v62.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_20 : BitVec 32 := 15#32
  let v58 : BitVec 32 := Scalar.andi v2 c15_i32_20
  let c1_i32_21 : BitVec 32 := 1#32
  let v59 : BitVec 32 := Scalar.xori v58 c1_i32_21
  let c0_i32_33 : BitVec 32 := 0#32
  ![v59.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_40 : BitVec 32 := 14#32
  let v79 : BitVec 32 := Scalar.andi v2 c14_i32_40
  let c0_i32_47 : BitVec 32 := 0#32
  ![v79.toNat, 0]
def k0_dev18 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_42 : BitVec 32 := 2#32
  let v81 : BitVec 32 := Scalar.xori v2 c2_i32_42
  let c1_i32_45 : BitVec 32 := 1#32
  let v82 : BitVec 32 := Scalar.muli v81 c1_i32_45
  let v83 : BitVec 32 := Scalar.addi c0_i32_46 v82
  v83.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_40 : BitVec 32 := 14#32
  let v79 : BitVec 32 := Scalar.andi v2 c14_i32_40
  let c2_i32_41 : BitVec 32 := 2#32
  let v80 : BitVec 32 := Scalar.xori v79 c2_i32_41
  let c0_i32_53 : BitVec 32 := 0#32
  ![v80.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_60 : BitVec 32 := 12#32
  let v100 : BitVec 32 := Scalar.andi v2 c12_i32_60
  let c0_i32_67 : BitVec 32 := 0#32
  ![v100.toNat, 0]
def k0_dev19 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_62 : BitVec 32 := 4#32
  let v102 : BitVec 32 := Scalar.xori v2 c4_i32_62
  let c1_i32_65 : BitVec 32 := 1#32
  let v103 : BitVec 32 := Scalar.muli v102 c1_i32_65
  let v104 : BitVec 32 := Scalar.addi c0_i32_66 v103
  v104.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_60 : BitVec 32 := 12#32
  let v100 : BitVec 32 := Scalar.andi v2 c12_i32_60
  let c4_i32_61 : BitVec 32 := 4#32
  let v101 : BitVec 32 := Scalar.xori v100 c4_i32_61
  let c0_i32_73 : BitVec 32 := 0#32
  ![v101.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_80 : BitVec 32 := 8#32
  let v121 : BitVec 32 := Scalar.andi v2 c8_i32_80
  let c0_i32_87 : BitVec 32 := 0#32
  ![v121.toNat, 0]
def k0_dev20 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_82 : BitVec 32 := 8#32
  let v123 : BitVec 32 := Scalar.xori v2 c8_i32_82
  let c1_i32_85 : BitVec 32 := 1#32
  let v124 : BitVec 32 := Scalar.muli v123 c1_i32_85
  let v125 : BitVec 32 := Scalar.addi c0_i32_86 v124
  v125.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_80 : BitVec 32 := 8#32
  let v121 : BitVec 32 := Scalar.andi v2 c8_i32_80
  let c8_i32_81 : BitVec 32 := 8#32
  let v122 : BitVec 32 := Scalar.xori v121 c8_i32_81
  let c0_i32_93 : BitVec 32 := 0#32
  ![v122.toNat, 0]
@[reducible] def k0_t1_loop : Scf.Loop 32 :=
  let c0_i32_141 : BitVec 32 := 0#32
  let c1024_i32 : BitVec 32 := 1024#32
  let v284 : BitVec 32 := Scalar.addi c0_i32_141 c1024_i32
  let c1_i32_142 : BitVec 32 := 1#32
  ⟨c0_i32_141, v284, c1_i32_142⟩
def k0_off10 (k0_t1 : Fin k0_t1_loop.trips) : Fin 2 → Nat :=
  let c0_i32_141 : BitVec 32 := 0#32
  let c1_i32_142 : BitVec 32 := 1#32
  let arg14 : BitVec 32 := Scf.iv c0_i32_141 c1_i32_142 k0_t1
  let c0_i32_150 : BitVec 32 := 0#32
  let v288 : BitVec 1 := Scalar.cmpi .sgt arg14 c0_i32_150
  let v289 : BitVec 32 := Scalar.extui v288
  let c0_i32_151 : BitVec 32 := 0#32
  let v290 : BitVec 1 := Scalar.cmpi .slt arg14 c0_i32_151
  let v291 : BitVec 32 := Scalar.extui v290
  let v292 : BitVec 32 := Scalar.subi v289 v291
  let c128_i32 : BitVec 32 := 128#32
  let c0_i32_152 : BitVec 32 := 0#32
  let v293 : BitVec 1 := Scalar.cmpi .sgt c128_i32 c0_i32_152
  let v294 : BitVec 32 := Scalar.extui v293
  let c0_i32_153 : BitVec 32 := 0#32
  let v295 : BitVec 1 := Scalar.cmpi .slt c128_i32 c0_i32_153
  let v296 : BitVec 32 := Scalar.extui v295
  let v297 : BitVec 32 := Scalar.subi v294 v296
  let v298 : BitVec 1 := Scalar.cmpi .ne v292 v297
  let v299 : BitVec 32 := Scalar.remsi arg14 c128_i32
  let c0_i32_154 : BitVec 32 := 0#32
  let v300 : BitVec 1 := Scalar.cmpi .ne v299 c0_i32_154
  let v301 : BitVec 1 := Scalar.andi v298 v300
  let v287 : BitVec 32 := Scalar.divsi arg14 c128_i32
  let c1_i32_155 : BitVec 32 := 1#32
  let v302 : BitVec 32 := Scalar.subi v287 c1_i32_155
  let v303 : BitVec 32 := Scalar.select v301 v302 v287
  let v305 : Index := Scalar.indexCast v303
  let c128_i32_156 : BitVec 32 := 128#32
  let v304 : BitVec 32 := Scalar.remsi arg14 c128_i32_156
  let v306 : Index := Scalar.indexCast v304
  ![v305.toNat, v306.toNat]
def k0_off11 (v310 : BitVec 32) : Fin 3 → Nat :=
  let c0_i32_159 : BitVec 32 := 0#32
  let c0_i32_160 : BitVec 32 := 0#32
  ![v310.toNat, 0, 0]

def k0_off12 (k0_t1 : Fin k0_t1_loop.trips) : Fin 3 → Nat :=
  let c0_i32_141 : BitVec 32 := 0#32
  let c1_i32_142 : BitVec 32 := 1#32
  let arg14 : BitVec 32 := Scf.iv c0_i32_141 c1_i32_142 k0_t1
  let c0_i32_161 : BitVec 32 := 0#32
  let c0_i32_162 : BitVec 32 := 0#32
  ![arg14.toNat, 0, 0]

def k0_chk1 (v310 : BitVec 32) : Prop :=
  (∀ a, (k0_off11 v310) a + S1x4x128.size a ≤ S1024x4x128.size a) ∧
  (∀ (hinb : ∀ a, (k0_off11 v310) a + S1x4x128.size a ≤ S1024x4x128.size a), (Rect.unit (s := S1024x4x128) (k0_off11 v310) S1x4x128.size hinb).WholeWords (EltTy.packing .bf16))
theorem k0_off11_inb : ∀ (v310 : BitVec 32) (k0_hw1 : k0_chk1 v310), ∀ a, (k0_off11 v310) a + S1x4x128.size a ≤ S1024x4x128.size a := fun v310 k0_hw1 => k0_hw1.1
theorem k0_off11_wordsbf16 : ∀ (v310 : BitVec 32) (k0_hw1 : k0_chk1 v310), (Rect.unit (s := S1024x4x128) (k0_off11 v310) S1x4x128.size (k0_off11_inb v310 k0_hw1)).WholeWords (EltTy.packing .bf16) := fun v310 k0_hw1 => k0_hw1.2 (k0_off11_inb v310 k0_hw1)

def k0_dev21 (v307 : BitVec 32) : Nat :=
  let c0_i32_158 : BitVec 32 := 0#32
  let c1_i32_157 : BitVec 32 := 1#32
  let v311 : BitVec 32 := Scalar.muli v307 c1_i32_157
  let v312 : BitVec 32 := Scalar.addi c0_i32_158 v311
  v312.toNat

def k0_chk2 (v307 : BitVec 32) : Prop :=
  ((k0_dev21 v307) < nD)
theorem k0_dev21_lt : ∀ (v307 : BitVec 32) (k0_hw2 : k0_chk2 v307), (k0_dev21 v307) < nD := fun v307 k0_hw2 => k0_hw2

@[reducible] def k0_t2_loop : Scf.Loop 32 :=
  let c0_i32_144 : BitVec 32 := 0#32
  let c1024_i32_145 : BitVec 32 := 1024#32
  let v285 : BitVec 32 := Scalar.addi c0_i32_144 c1024_i32_145
  let c1_i32_146 : BitVec 32 := 1#32
  ⟨c0_i32_144, v285, c1_i32_146⟩
@[reducible] def k0_t3_loop : Scf.Loop 32 :=
  let c0_i32_147 : BitVec 32 := 0#32
  let c1024_i32_148 : BitVec 32 := 1024#32
  let v286 : BitVec 32 := Scalar.addi c0_i32_147 c1024_i32_148
  let c1_i32_149 : BitVec 32 := 1#32
  ⟨c0_i32_147, v286, c1_i32_149⟩
abbrev stage0_0 : Fin 1 → Memref sig .tc .vmem S8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x512 : Shape := ⟨2, ![16384, 512]⟩
abbrev S16384 : Shape := ⟨1, ![16384]⟩
abbrev S_ : Shape := ⟨0, ![]⟩
abbrev S16384x1 : Shape := ⟨2, ![16384, 1]⟩

abbrev nBuf : Space → Nat
  | .hbm => 15
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x512, .bf16⟩
  | .hbm, ⟨14, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Sched.lean ====
/-
The data one launch of the kernel works on, and the protocol its devices follow.

Every device holds a table of its row counts, the destination and the rank of each of its 1024 rows, and the rows.
The devices first meet at a barrier, then gather every table on every device in four exchanges over a hypercube
(exchange `j` with the device whose number differs in bit `j`), compute where each row goes, and send each row to its
place on its destination. This file states what each buffer holds at the end (`gath`, `pvec`, `outv`), which rows an
exchange moves, and the schedule of the semaphores: who pays what on which, and what a payment hands over.
-/
module

public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Scf
public import Idealize.ShloMosaic.Lib.Tactic

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and this protocol's, whose duties are numbered. -/
abbrev UU : Type := UR sig nD τ × URounds (GSem nD τ sig) ℕ

local notation "𝕄" => MT nD τ sig Unit (Elt F) ℕ UU ℕ

abbrev EP : Emb (UR sig nD τ) (MT nD τ sig Unit (Elt F) ℕ UU ℕ) := embL
/-- The kernel calls no function: no variants. -/
abbrev 𝒱₀ : Variants := Variants.none
abbrev ER : Emb (URounds (GSem nD τ sig) ℕ) (MT nD τ sig Unit (Elt F) ℕ UU ℕ) := embR

/-! ## The data -/

/-- What each device holds when the kernel starts: its counts (in row 0 of an 8×128 table), the destination and the
    rank of each row (row `k` at place `(k / 128, k % 128)`), and the rows. -/
structure Data (F : FTy → Type) where
  cnt : Dev nD → S8x128.Idx → BitVec 32
  dest : Dev nD → S8x128.Idx → BitVec 32
  rank : Dev nD → S8x128.Idx → BitVec 32
  x : Dev nD → S1024x4x128.Idx → Elt F .bf16

variable (D : Data F)

/-- Place `k` of an 8×128 table, row by row. -/
def cell (k : Fin 1024) : S8x128.Idx := fun a => match a with
  | ⟨0, _⟩ => ⟨k.val / 128, by show k.val / 128 < 8; omega⟩
  | ⟨1, _⟩ => ⟨k.val % 128, by show k.val % 128 < 128; omega⟩

/-- The gathered table: row `r` is row 0 of device `r`'s counts. -/
def Data.gath : S16x128.Idx → BitVec 32 := fun i =>
  D.cnt ⟨(i 0).val, (i 0).isLt⟩ (fun a => match a with
    | ⟨0, _⟩ => ⟨0, by show 0 < 8; omega⟩
    | ⟨1, _⟩ => ⟨(i 1).val, (i 1).isLt⟩)

/-- A device's own number, as its program computes it. -/
abbrev me (c : Dev nD) : BitVec 32 := Scalar.remsi (Scalar.divsi (Dev.word c) 1#32) 16#32

/-- The position of each row on its destination, as the program computes it from the gathered table. -/
def Data.pvec (c : Dev nD) : S8x128.Idx → BitVec 32 :=
  k0_pay10 (k0_pay4 (F := F) D.gath (k0_pay2 (me c)) k0_pay3) (k0_pay5 (F := F) (D.dest c))
    (k0_pay8 (k0_pay4 (F := F) D.gath (k0_pay2 (me c)) k0_pay3) (k0_pay5 (F := F) (D.dest c))
      (k0_pay6 (F := F) D.gath (k0_pay2 (me c)) k0_pay3 (D.dest c) (D.rank c))
      (k0_pay7 (F := F) D.gath (k0_pay2 (me c)) k0_pay3 (D.dest c)))
    (k0_pay9 (k0_pay4 (F := F) D.gath (k0_pay2 (me c)) k0_pay3) (k0_pay5 (F := F) (D.dest c)))

/-- The destination and the position of row `k` of device `c`, as numbers. -/
def Data.dst (c : Dev nD) (k : Fin 1024) : ℕ := (D.dest c (cell k)).toNat
def Data.pos (c : Dev nD) (k : Fin 1024) : ℕ := (D.pvec c (cell k)).toNat

/-- What the protocol asks of the data: every row names a device and a position there, and no two rows of the whole
    launch the same ones. -/
structure Data.Good : Prop where
  dst_lt : ∀ c k, D.dst c k < 16
  pos_lt : ∀ c k, D.pos c k < 1024
  inj : ∀ c k c' k', D.dst c k = D.dst c' k' → D.pos c k = D.pos c' k' → c = c' ∧ k = k'

section Good
variable {D} (G : D.Good)

/-- The device row `k` of `c` goes to, and its place there. -/
def Data.Good.to (ck : Dev nD × Fin 1024) : Dev nD × Fin 1024 :=
  (⟨D.dst ck.1 ck.2, G.dst_lt _ _⟩, ⟨D.pos ck.1 ck.2, G.pos_lt _ _⟩)

theorem Data.Good.to_inj : Function.Injective G.to := fun a b h => by
  have h1 := congrArg (fun p => p.1.val) h
  have h2 := congrArg (fun p => p.2.val) h
  obtain ⟨e1, e2⟩ := G.inj a.1 a.2 b.1 b.2 h1 h2
  exact Prod.ext e1 e2

/-- Rows and places are matched one to one. -/
def Data.Good.perm : Dev nD × Fin 1024 ≃ Dev nD × Fin 1024 :=
  Equiv.ofBijective G.to (Finite.injective_iff_bijective.mp G.to_inj)

theorem Data.Good.perm_apply (ck : Dev nD × Fin 1024) : G.perm ck = G.to ck := rfl

/-- What the result holds on device `e` at the end: at place `p` the row sent there. -/
def Data.Good.outv (e : Dev nD) : S1024x4x128.Idx → Elt F .bf16 := fun i =>
  D.x (G.perm.symm (e, (i 0 : Fin 1024))).1 (Function.update i 0 ((G.perm.symm (e, (i 0 : Fin 1024))).2 : Fin 1024))

end Good

/-! ## The rows an exchange moves -/

/-- Rows `a` to `a + n` of the gathered table, and row `k` of an array of 1024 rows. -/
def rowsV (a n : ℕ) : Finset S16x128.Idx := Finset.univ.filter fun i => a ≤ (i 0).val ∧ (i 0).val < a + n
def rowF (k : ℕ) : Finset S1024x4x128.Idx := Finset.univ.filter fun i => (i 0).val = k

theorem mem_rowsV {a n : ℕ} {i : S16x128.Idx} : i ∈ rowsV a n ↔ a ≤ (i 0).val ∧ (i 0).val < a + n := by
  unfold rowsV; rw [Finset.mem_filter]; exact ⟨fun h => h.2, fun h => ⟨Finset.mem_univ _, h⟩⟩
theorem mem_rowF {k : ℕ} {i : S1024x4x128.Idx} : i ∈ rowF k ↔ (i 0).val = k := by
  unfold rowF; rw [Finset.mem_filter]; exact ⟨fun h => h.2, fun h => ⟨Finset.mem_univ _, h⟩⟩

/-- The partner of exchange `j`, and the first of the rows a device has before it: its number, the low `j` bits cleared. -/
def prt (c : Dev nD) (j : Fin 4) : Dev nD := ⟨(c.val ^^^ 2 ^ j.val) % 16, Nat.mod_lt _ (by decide)⟩
def fst (c : Dev nD) (j : ℕ) : ℕ := c.val / 2 ^ j * 2 ^ j

theorem prt_prt (c : Dev nD) (j : Fin 4) : prt (prt c j) j = c := by revert c j; decide
theorem prt_inj : ∀ (c : Dev nD) (j j' : Fin 4), prt c j = prt c j' → j = j' := by decide
def prtE (j : Fin 4) : Dev nD ≃ Dev nD := ⟨fun c => prt c j, fun c => prt c j, fun c => prt_prt c j, fun c => prt_prt c j⟩

/-! ## The cells -/

abbrev barS := (SemArray.scalar (sig.barrier 0 rfl) : Sems sig S_).sem
/-- The semaphores the kernel allocates: sends and arrivals of the four exchanges, sends and arrivals of rows, the copy. -/
abbrev own (i : Fin 11) : DmaSem sig := ⟨4 + i.val, by show 4 + i.val < 15; omega⟩
abbrev bar (c : Dev nD) : GSem nD τ sig := ((c : Thread nD τ), .reg barS)
abbrev kc (c : Dev nD) (i : Fin 11) : GSem nD τ sig := ((c : Thread nD τ), .dma (own i))
abbrev iS (j : Fin 4) : Fin 11 := ⟨j.val, by omega⟩
abbrev iR (j : Fin 4) : Fin 11 := ⟨4 + j.val, by omega⟩

/-- What a copy of `n` rows of the gathered table, of one row of the flat arrays and of the positions adds to a
    semaphore. -/
abbrev NB : ℕ → ℕ
  | 0 => (((Memref.whole cc0_scratch0).view.slice (Rect.unit (s := S16x128) ![0, 0] S1x128.size (by decide)) : View sig .tc _ _ _)).dmaCredit
  | 1 => (((Memref.whole cc0_scratch0).view.slice (Rect.unit (s := S16x128) ![0, 0] S2x128.size (by decide)) : View sig .tc _ _ _)).dmaCredit
  | 2 => (((Memref.whole cc0_scratch0).view.slice (Rect.unit (s := S16x128) ![0, 0] S4x128.size (by decide)) : View sig .tc _ _ _)).dmaCredit
  | _ => (((Memref.whole cc0_scratch0).view.slice (Rect.unit (s := S16x128) ![0, 0] S8x128.size (by decide)) : View sig .tc _ _ _)).dmaCredit
abbrev NROW : ℕ := (((Memref.whole main_v21).view.slice (Rect.unit (s := S1024x4x128) ![0, 0, 0] S1x4x128.size inb_S1024x4x128_S1x4x128_0_0_0) : View sig .tc _ _ _)).dmaCredit
abbrev NCP : ℕ := ((Memref.whole cc0_scratch1).view : View sig .tc _ _ _).dmaCredit

theorem NB_pos : ∀ j, 0 < NB j
  | 0 => View.dmaCredit_pos _ (by decide)
  | 1 => View.dmaCredit_pos _ (by decide)
  | 2 => View.dmaCredit_pos _ (by decide)
  | _ + 3 => View.dmaCredit_pos _ (by decide)
theorem NROW_pos : 0 < NROW := View.dmaCredit_pos _ (by decide)
theorem NCP_pos : 0 < NCP := View.dmaCredit_pos _ (by decide)

/-! ## The schedule -/

/-- The device of a duty's number. -/
abbrev dv (d : ℕ) : Dev nD := ⟨d % 16, Nat.mod_lt _ (by decide)⟩

theorem dv_val (c : Dev nD) : dv c.val = c := Fin.ext (Nat.mod_eq_of_lt c.isLt)

/-- The elements `I` of the gathered table on device `c`, of the rows, of the result. -/
abbrev tab (c : Dev nD) (I : Finset S16x128.Idx) (f : S16x128.Idx → BitVec 32) : sProp 𝕄 :=
  ((Dev.tc c : Thread nD τ).loc cc0_scratch0) ↦[I]{fullShare} f
abbrev xrow (c : Dev nD) (I : Finset S1024x4x128.Idx) (f : S1024x4x128.Idx → Elt F .bf16) : sProp 𝕄 :=
  ((Dev.tc c : Thread nD τ).loc main_v20) ↦[I]{fullShare} f
abbrev orow (c : Dev nD) (I : Finset S1024x4x128.Idx) (f : S1024x4x128.Idx → Elt F .bf16) : sProp 𝕄 :=
  ((Dev.tc c : Thread nD τ).loc main_v21) ↦[I]{fullShare} f
abbrev pvm (c : Dev nD) (f : S8x128.Idx → BitVec 32) : sProp 𝕄 := ((Dev.tc c : Thread nD τ).loc cc0_scratch2) ↦{fullShare} f
abbrev psm (c : Dev nD) (f : S8x128.Idx → BitVec 32) : sProp 𝕄 := ((Dev.tc c : Thread nD τ).loc cc0_scratch1) ↦{fullShare} f

/-- The element ranges of device `c`'s row `k` at its destination, if that is `k'`. -/
abbrev giveRow (e c : Dev nD) (k : Fin 1024) : sProp 𝕄 := if D.dst c k = e.val then iprop(∃ f, orow e (rowF (D.pos c k)) f) else iprop(emp)
abbrev giveTab (e c : Dev nD) (j : Fin 4) : sProp 𝕄 :=
  if e = prt c j then iprop((∃ f, tab e (rowsV (fst c j.val) (2 ^ j.val)) f) ∗ reached ER (kc e (iR j)) 0) else iprop(emp)
/-- What device `e` hands to device `c` when they meet: the places of its result that `c`'s rows go to, the rows of its
    table that `c` will write, and that the semaphores these land on are open. -/
def giv (e c : Dev nD) : sProp 𝕄 :=
  iprop((bigSep Finset.univ fun k : Fin 1024 => giveRow D e c k) ∗ (bigSep Finset.univ fun j : Fin 4 => giveTab e c j) ∗ reached ER (kc e 9) 0)

variable {D} (G : D.Good)

/-- The duties of each semaphore's one round. -/
def dut (c : Dev nD) : SemLoc sig → Finset ℕ
  | .reg _ => (Finset.range 16).erase c.val
  | .dma q => if q.val < 4 then ∅ else if q.val < 12 then {0} else if q.val < 14 then Finset.range 1024 else {0}
def amt : SemLoc sig → ℕ
  | .reg _ => 1
  | .dma q => if q.val < 8 then NB (q.val - 4) else if q.val < 12 then NB (q.val - 8) else if q.val < 14 then NROW else NCP
def pay (c : Dev nD) : SemLoc sig → ℕ → sProp 𝕄
  | .reg _, d => giv D (dv d) c
  | .dma q, d =>
    if q.val < 8 then tab c (rowsV (fst c (q.val - 4)) (2 ^ (q.val - 4))) D.gath
    else if h : q.val < 12 then tab c (rowsV (fst (prt c ⟨(q.val - 8) % 4, Nat.mod_lt _ (by decide)⟩) (q.val - 8)) (2 ^ (q.val - 8))) D.gath
    else if q.val < 13 then xrow c (rowF d) (D.x c)
    else if q.val < 14 then orow c (rowF d) (G.outv c)
    else iprop(pvm c (D.pvec c) ∗ psm c (D.pvec c))

def Rd : Rounds.Schedule (GSem nD τ sig) ℕ 𝕄 where
  duties g r := if r = 0 ∧ g.1.2 = .tc then dut g.1.1 g.2 else ∅
  unitless _ := False
  amount g _ _ := amt g.2
  payload g _ d := pay G g.1.1 g.2 d
  amount_pos g _ _ _ := by
    show 0 < amt g.2
    rcases g.2 with _ | q
    · exact Nat.one_pos
    · show 0 < (if q.val < 8 then NB (q.val - 4) else if q.val < 12 then NB (q.val - 8) else if q.val < 14 then NROW else NCP)
      split
      · exact NB_pos _
      split
      · exact NB_pos _
      split
      · exact NROW_pos
      · exact NCP_pos

instance giveRow_storable (e c : Dev nD) (k : Fin 1024) : BI.Storable (upEmb : UEmb _ 𝕄) (giveRow D e c k) := by
  unfold giveRow; split <;> infer_instance
instance giveTab_storable (e c : Dev nD) (j : Fin 4) : BI.Storable (upEmb : UEmb _ 𝕄) (giveTab (F := F) e c j) := by
  unfold giveTab; split <;> infer_instance
instance giv_storable (e c : Dev nD) : BI.Storable (upEmb : UEmb _ 𝕄) (giv D e c) := by
  unfold giv; infer_instance
instance Rd_storable (g : GSem nD τ sig) (r : ℕ) (d : ℕ) : BI.Storable (upEmb : UEmb _ 𝕄) ((Rd G).payload g r d) := by
  show BI.Storable upEmb (pay G g.1.1 g.2 d)
  unfold pay
  rcases g.2 with _ | q
  · dsimp only; infer_instance
  · dsimp only
    split; · infer_instance
    split; · infer_instance
    split; · infer_instance
    split <;> infer_instance

/-! ### The schedule, cell by cell -/

theorem duties_later (g : GSem nD τ sig) : ∀ r, 1 ≤ r → (Rd G).duties g r = ∅ := fun r hr => by dsimp only [Rd]; exact if_neg fun h => by omega
theorem duties_bar (c : Dev nD) : (Rd G).duties (bar c) 0 = (Finset.range 16).erase c.val := by dsimp only [Rd]; exact if_pos ⟨rfl, rfl⟩

theorem duties_kc (c : Dev nD) (i : Fin 11) :
    (Rd G).duties (kc c i) 0 = if i.val < 8 then {0} else if i.val < 10 then Finset.range 1024 else {0} := by
  dsimp only [Rd]; rw [if_pos ⟨rfl, rfl⟩]
  show (if 4 + i.val < 4 then ∅ else if 4 + i.val < 12 then {0} else if 4 + i.val < 14 then Finset.range 1024 else {0}) = _
  rw [if_neg (by omega)]
  by_cases h : i.val < 8
  · rw [if_pos h, if_pos (by omega)]
  · rw [if_neg h, if_neg (by omega)]
    by_cases h2 : i.val < 10
    · rw [if_pos h2, if_pos (by omega)]
    · rw [if_neg h2, if_neg (by omega)]
theorem duties_S (c : Dev nD) (j : Fin 4) : (Rd G).duties (kc c (iS j)) 0 = {0} := by
  rw [duties_kc, if_pos (show j.val < 8 by omega)]
theorem duties_R (c : Dev nD) (j : Fin 4) : (Rd G).duties (kc c (iR j)) 0 = {0} := by
  rw [duties_kc, if_pos (show 4 + j.val < 8 by omega)]
theorem duties_8 (c : Dev nD) : (Rd G).duties (kc c 8) 0 = Finset.range 1024 := by rw [duties_kc]; rfl
theorem duties_9 (c : Dev nD) : (Rd G).duties (kc c 9) 0 = Finset.range 1024 := by rw [duties_kc]; rfl
theorem duties_10 (c : Dev nD) : (Rd G).duties (kc c 10) 0 = {0} := by rw [duties_kc]; rfl

theorem amount_S (c : Dev nD) (j : Fin 4) (r d : ℕ) : (Rd G).amount (kc c (iS j)) r d = NB j.val := by
  show (if 4 + j.val < 8 then NB (4 + j.val - 4) else _) = _
  rw [if_pos (by omega), show 4 + j.val - 4 = j.val by omega]
theorem amount_R (c : Dev nD) (j : Fin 4) (r d : ℕ) : (Rd G).amount (kc c (iR j)) r d = NB j.val := by
  show (if 4 + (4 + j.val) < 8 then _ else if 4 + (4 + j.val) < 12 then NB (4 + (4 + j.val) - 8) else _) = _
  rw [if_neg (by omega), if_pos (by omega), show 4 + (4 + j.val) - 8 = j.val by omega]
theorem amount_8 (c : Dev nD) (r d : ℕ) : (Rd G).amount (kc c 8) r d = NROW := rfl
theorem amount_9 (c : Dev nD) (r d : ℕ) : (Rd G).amount (kc c 9) r d = NROW := rfl
theorem amount_10 (c : Dev nD) (r d : ℕ) : (Rd G).amount (kc c 10) r d = NCP := rfl

theorem payload_bar (c : Dev nD) (r d : ℕ) : (Rd G).payload (bar c) r d = giv D (dv d) c := rfl
theorem payload_S (c : Dev nD) (j : Fin 4) (r d : ℕ) :
    (Rd G).payload (kc c (iS j)) r d = tab c (rowsV (fst c j.val) (2 ^ j.val)) D.gath := by
  show (if 4 + j.val < 8 then tab c (rowsV (fst c (4 + j.val - 4)) (2 ^ (4 + j.val - 4))) D.gath else _) = _
  rw [if_pos (by omega), show 4 + j.val - 4 = j.val by omega]
theorem payload_R (c : Dev nD) (j : Fin 4) (r d : ℕ) :
    (Rd G).payload (kc c (iR j)) r d = tab c (rowsV (fst (prt c j) j.val) (2 ^ j.val)) D.gath := by
  show (if 4 + (4 + j.val) < 8 then _ else if h : 4 + (4 + j.val) < 12 then
    tab c (rowsV (fst (prt c ⟨(4 + (4 + j.val) - 8) % 4, _⟩) (4 + (4 + j.val) - 8)) (2 ^ (4 + (4 + j.val) - 8))) D.gath else _) = _
  rw [if_neg (by omega), dif_pos (by omega)]
  have h : 4 + (4 + j.val) - 8 = j.val := by omega
  have h' : (⟨(4 + (4 + j.val) - 8) % 4, Nat.mod_lt _ (by decide)⟩ : Fin 4) = j := Fin.ext (by show (4 + (4 + j.val) - 8) % 4 = j.val; omega)
  rw [h', h]
theorem payload_8 (c : Dev nD) (r d : ℕ) : (Rd G).payload (kc c 8) r d = xrow c (rowF d) (D.x c) := rfl
theorem payload_9 (c : Dev nD) (r d : ℕ) : (Rd G).payload (kc c 9) r d = orow c (rowF d) (G.outv c) := rfl
theorem payload_10 (c : Dev nD) (r d : ℕ) : (Rd G).payload (kc c 10) r d = iprop(pvm c (D.pvec c) ∗ psm c (D.pvec c)) := rfl

theorem expect_bar (c : Dev nD) : (Rd G).expect (bar c) 0 = 15 := by
  unfold Schedule.expect Schedule.amountOf; rw [duties_bar]
  show ((Finset.range 16).erase c.val).sum (fun _ => 1) = 15
  rw [Finset.sum_const, Finset.card_erase_of_mem (Finset.mem_range.mpr c.isLt), Finset.card_range]; rfl
theorem expect_one {g : GSem nD τ sig} {N : ℕ} (hd : (Rd G).duties g 0 = {0}) (ha : (Rd G).amount g 0 0 = N) : (Rd G).expect g 0 = N := by
  unfold Schedule.expect Schedule.amountOf; rw [hd, Finset.sum_singleton, ha]
theorem expect_rows {g : GSem nD τ sig} (hd : (Rd G).duties g 0 = Finset.range 1024) (ha : ∀ d, (Rd G).amount g 0 d = NROW) :
    (Rd G).expect g 0 = 1024 * NROW := by
  unfold Schedule.expect Schedule.amountOf; rw [hd, Finset.sum_congr rfl (fun d _ => ha d), Finset.sum_const, Finset.card_range]; rfl

/-! ## What each device owes, and the order of the waits -/

/-- What a device still owes for the exchanges from `j` on, and for its rows from `i` on. -/
def owT (c : Dev nD) (j : ℕ) : CellTallies nD τ sig Unit :=
  ∑ j' ∈ Finset.univ.filter (fun j' : Fin 4 => j ≤ j'.val), tallyAt (kc (prt c j') (iR j')) () (NB j'.val)
def owR (c : Dev nD) (i : ℕ) : CellTallies nD τ sig Unit :=
  ∑ k ∈ Finset.univ.filter (fun k : Fin 1024 => i ≤ k.val), tallyAt (kc (G.to (c, k)).1 9) () NROW
def owB (c : Dev nD) (n : ℕ) : CellTallies nD τ sig Unit :=
  ∑ k ∈ Finset.univ.filter (fun k : Dev nD => n ≤ k.val ∧ k ≠ c), tallyAt (bar k) () 1
def O₀ (c : Dev nD) : CellTallies nD τ sig Unit := owB c 0 + (owT c 0 + owR G c 0)

def L (g : GSem nD τ sig) : Finset Unit := if g.1.2 = .tc then {()} else ∅
def lv (g : GSem nD τ sig) (_ : Unit) : ℕ := match g.2 with
  | .reg _ => 1
  | .dma q => if q.val < 8 then 0 else if q.val < 12 then q.val - 6 else if q.val = 13 then 10 else 0
theorem L_of_ne (g : GSem nD τ sig) (h : g.1.2 ≠ .tc) : L g = ∅ := if_neg h
theorem L_tc (c : Dev nD) (sm : SemLoc sig) : L ((c : Thread nD τ), sm) = {()} := if_pos rfl

/-- Every cell that `O` owes to is a TensorCore's, above level `b`. -/
def Above (b : ℕ) (O : CellTallies nD τ sig Unit) : Prop := ∀ g u, 0 < O g u → g.1.2 = .tc ∧ b < lv g u

theorem Above.add {b : ℕ} {O O' : CellTallies nD τ sig Unit} (h : Above b O) (h' : Above b O') : Above b (O + O') := fun g u hp => by
  rcases Nat.eq_zero_or_pos (O g u) with h0 | h0
  · refine h' g u ?_
    have : (O + O') g u = O g u + O' g u := rfl
    omega
  · exact h g u h0
theorem Above.zero {b : ℕ} : Above b 0 := fun g u hp => absurd hp (Nat.lt_irrefl 0)
theorem Above.tally {b : ℕ} (c : Dev nD) (sm : SemLoc sig) (N : ℕ) (h : b < lv ((c : Thread nD τ), sm) ()) :
    Above b (tallyAt ((c : Thread nD τ), sm) () N) := fun g u hp => by
  rw [tallyAt_apply] at hp
  by_cases hg : g = ((c : Thread nD τ), sm) ∧ u = ()
  · obtain ⟨rfl, rfl⟩ := hg; exact ⟨rfl, h⟩
  · rw [if_neg hg] at hp; exact absurd hp (Nat.lt_irrefl 0)
theorem Above.sum {b : ℕ} {T : Type} [DecidableEq T] (s : Finset T) (f : T → CellTallies nD τ sig Unit) (h : ∀ t ∈ s, Above b (f t)) :
    Above b (∑ t ∈ s, f t) := by
  induction s using Finset.induction_on with
  | empty => rw [Finset.sum_empty]; exact Above.zero
  | insert t s ht ih =>
    rw [Finset.sum_insert ht]
    exact (h t (Finset.mem_insert_self _ _)).add (ih fun t' h' => h t' (Finset.mem_insert_of_mem h'))

theorem above_owB (c : Dev nD) (n : ℕ) : Above 0 (owB c n) :=
  Above.sum _ _ fun k _ => Above.tally _ _ _ (by show 0 < 1; omega)
theorem lv_R (c : Dev nD) (j : Fin 4) : lv (kc c (iR j)) () = 2 + j.val := by
  show (if 4 + (4 + j.val) < 8 then 0 else if 4 + (4 + j.val) < 12 then 4 + (4 + j.val) - 6 else _) = _
  rw [if_neg (by omega), if_pos (by omega)]; omega
theorem above_owT (c : Dev nD) (j : ℕ) : Above (1 + j) (owT c j) :=
  Above.sum _ _ fun k hk => Above.tally _ _ _ (by rw [lv_R]; have := (Finset.mem_filter.mp hk).2; omega)
theorem above_owR (c : Dev nD) (i : ℕ) : Above 9 (owR G c i) :=
  Above.sum _ _ fun k _ => Above.tally _ _ _ (by show 9 < 10; omega)
theorem Above.mono {b b' : ℕ} {O : CellTallies nD τ sig Unit} (h : Above b O) (hb : b' ≤ b) : Above b' O :=
  fun g u hp => ⟨(h g u hp).1, Nat.lt_of_le_of_lt hb (h g u hp).2⟩
theorem above_O₀ (c : Dev nD) : Above 0 (O₀ G c) :=
  (above_owB c 0).add (((above_owT c 0).mono (Nat.zero_le _)).add ((above_owR G c 0).mono (Nat.zero_le _)))

/-- A device may wait at level `b` while it owes only above it. -/
theorem mayWait (c : Dev nD) (sm : SemLoc sig) (b : ℕ) (hb : lv ((c : Thread nD τ), sm) () ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

end Cert.Route

end
-- ==== Proof.Arith.lean ====
/-
The program's index arithmetic in closed form: which devices the meeting signals, the partner and the rows of each
exchange, the place of row `k` in an 8×128 table and in an array of rows, and the sets of elements these name.
-/
module

public import proofs.«01_k».proof.Proof.Sched
public import Idealize.ShloMosaic.Lib.Pipeline.ValueKit

@[expose] public section

noncomputable section

namespace Cert.Route

open Cert.KernelIdeal Cert.KernelIdeal.Gen

open Idealize.ShloMosaic
open Idealize.ShloMosaic.TcCoe

/-! ## The meeting's conditions -/

theorem cond1_iff : ∀ c : Dev nD, k0_cond1 c = 1#1 ↔ (⟨0, by decide⟩ : Dev nD) ≠ c := by decide +kernel
theorem cond2_iff : ∀ c : Dev nD, k0_cond2 c = 1#1 ↔ (⟨1, by decide⟩ : Dev nD) ≠ c := by decide +kernel
theorem cond3_iff : ∀ c : Dev nD, k0_cond3 c = 1#1 ↔ (⟨2, by decide⟩ : Dev nD) ≠ c := by decide +kernel
theorem cond4_iff : ∀ c : Dev nD, k0_cond4 c = 1#1 ↔ (⟨3, by decide⟩ : Dev nD) ≠ c := by decide +kernel
theorem cond5_iff : ∀ c : Dev nD, k0_cond5 c = 1#1 ↔ (⟨4, by decide⟩ : Dev nD) ≠ c := by decide +kernel
theorem cond6_iff : ∀ c : Dev nD, k0_cond6 c = 1#1 ↔ (⟨5, by decide⟩ : Dev nD) ≠ c := by decide +kernel
theorem cond7_iff : ∀ c : Dev nD, k0_cond7 c = 1#1 ↔ (⟨6, by decide⟩ : Dev nD) ≠ c := by decide +kernel
theorem cond8_iff : ∀ c : Dev nD, k0_cond8 c = 1#1 ↔ (⟨7, by decide⟩ : Dev nD) ≠ c := by decide +kernel
theorem cond9_iff : ∀ c : Dev nD, k0_cond9 c = 1#1 ↔ (⟨8, by decide⟩ : Dev nD) ≠ c := by decide +kernel
theorem cond10_iff : ∀ c : Dev nD, k0_cond10 c = 1#1 ↔ (⟨9, by decide⟩ : Dev nD) ≠ c := by decide +kernel
theorem cond11_iff : ∀ c : Dev nD, k0_cond11 c = 1#1 ↔ (⟨10, by decide⟩ : Dev nD) ≠ c := by decide +kernel
theorem cond12_iff : ∀ c : Dev nD, k0_cond12 c = 1#1 ↔ (⟨11, by decide⟩ : Dev nD) ≠ c := by decide +kernel
theorem cond13_iff : ∀ c : Dev nD, k0_cond13 c = 1#1 ↔ (⟨12, by decide⟩ : Dev nD) ≠ c := by decide +kernel
theorem cond14_iff : ∀ c : Dev nD, k0_cond14 c = 1#1 ↔ (⟨13, by decide⟩ : Dev nD) ≠ c := by decide +kernel
theorem cond15_iff : ∀ c : Dev nD, k0_cond15 c = 1#1 ↔ (⟨14, by decide⟩ : Dev nD) ≠ c := by decide +kernel
theorem cond16_iff : ∀ c : Dev nD, k0_cond16 c = 1#1 ↔ (⟨15, by decide⟩ : Dev nD) ≠ c := by decide +kernel

/-! ## The exchanges -/

theorem dev17_eq (c : Dev nD) : (⟨k0_dev17 c, k0_dev17_lt c⟩ : Dev nD) = prt c 0 :=
  Fin.ext ((by decide +kernel : ∀ c : Dev nD, k0_dev17 c = (prt c 0).val) c)
theorem dev18_eq (c : Dev nD) : (⟨k0_dev18 c, k0_dev18_lt c⟩ : Dev nD) = prt c 1 :=
  Fin.ext ((by decide +kernel : ∀ c : Dev nD, k0_dev18 c = (prt c 1).val) c)
theorem dev19_eq (c : Dev nD) : (⟨k0_dev19 c, k0_dev19_lt c⟩ : Dev nD) = prt c 2 :=
  Fin.ext ((by decide +kernel : ∀ c : Dev nD, k0_dev19 c = (prt c 2).val) c)
theorem dev20_eq (c : Dev nD) : (⟨k0_dev20 c, k0_dev20_lt c⟩ : Dev nD) = prt c 3 :=
  Fin.ext ((by decide +kernel : ∀ c : Dev nD, k0_dev20 c = (prt c 3).val) c)

theorem off2_eq : ∀ c : Dev nD, k0_off2 c = ![fst c 0, 0] := by decide +kernel
theorem off3_eq : ∀ c : Dev nD, k0_off3 c = ![fst (prt c 0) 0, 0] := by decide +kernel
theorem off4_eq : ∀ c : Dev nD, k0_off4 c = ![fst c 1, 0] := by decide +kernel
theorem off5_eq : ∀ c : Dev nD, k0_off5 c = ![fst (prt c 1) 1, 0] := by decide +kernel
theorem off6_eq : ∀ c : Dev nD, k0_off6 c = ![fst c 2, 0] := by decide +kernel
theorem off7_eq : ∀ c : Dev nD, k0_off7 c = ![fst (prt c 2) 2, 0] := by decide +kernel
theorem off8_eq : ∀ c : Dev nD, k0_off8 c = ![fst c 3, 0] := by decide +kernel
theorem off9_eq : ∀ c : Dev nD, k0_off9 c = ![fst (prt c 3) 3, 0] := by decide +kernel

/-- Two rows of the table, with columns, are the ranges of rows. -/
theorem rows_set (a n : ℕ) (off : Fin 2 → ℕ) (hoff : off = ![a, 0]) (sz : Fin 2 → ℕ) (hsz : sz = ![n, 128])
    (inb : ∀ x, off x + sz x ≤ S16x128.size x) : (Rect.unit (s := S16x128) off sz inb).set = rowsV a n := by
  subst hoff hsz
  ext i
  rw [Rect.mem_set_unit, mem_rowsV]
  constructor
  · intro h; exact h 0
  · intro h x
    match x with
    | ⟨0, _⟩ => exact h
    | ⟨1, _⟩ => exact ⟨Nat.zero_le _, by show (i 1).val < 0 + 128; rw [Nat.zero_add]; exact (i 1).isLt⟩

/-- One row of an array of 1024 rows. -/
theorem row_set (k : ℕ) (off : Fin 3 → ℕ) (hoff : off = ![k, 0, 0]) (inb : ∀ x, off x + S1x4x128.size x ≤ S1024x4x128.size x) :
    (Rect.unit (s := S1024x4x128) off S1x4x128.size inb).set = rowF k := by
  subst hoff
  ext i
  rw [Rect.mem_set_unit, mem_rowF]
  constructor
  · intro h
    have h0 : k ≤ (i 0).val ∧ (i 0).val < k + 1 := h 0
    omega
  · intro h x
    match x with
    | ⟨0, _⟩ => exact (show k ≤ (i 0).val ∧ (i 0).val < k + 1 by omega)
    | ⟨1, _⟩ => exact ⟨Nat.zero_le _, by show (i 1).val < 0 + 4; rw [Nat.zero_add]; exact (i 1).isLt⟩
    | ⟨2, _⟩ => exact ⟨Nat.zero_le _, by show (i 2).val < 0 + 128; rw [Nat.zero_add]; exact (i 2).isLt⟩

/-- A stage's rows and its partner's are the next stage's. -/
theorem rows_next : ∀ (c : Dev nD) (j : Fin 4) (r : Fin 16),
    (fst c (j.val + 1) ≤ r.val ∧ r.val < fst c (j.val + 1) + 2 ^ (j.val + 1)) ↔
      (fst c j.val ≤ r.val ∧ r.val < fst c j.val + 2 ^ j.val) ∨ (fst (prt c j) j.val ≤ r.val ∧ r.val < fst (prt c j) j.val + 2 ^ j.val) := by
  decide +kernel
theorem rows_apart : ∀ (c : Dev nD) (j : Fin 4) (r : Fin 16),
    (fst c j.val ≤ r.val ∧ r.val < fst c j.val + 2 ^ j.val) → (fst (prt c j) j.val ≤ r.val ∧ r.val < fst (prt c j) j.val + 2 ^ j.val) → False := by
  decide +kernel
theorem rowsV_next (c : Dev nD) (j : Fin 4) :
    rowsV (fst c (j.val + 1)) (2 ^ (j.val + 1)) = rowsV (fst c j.val) (2 ^ j.val) ∪ rowsV (fst (prt c j) j.val) (2 ^ j.val) := by
  ext i
  rw [Finset.mem_union, mem_rowsV, mem_rowsV, mem_rowsV]
  exact rows_next c j (i 0)
theorem rowsV_apart (c : Dev nD) (j : Fin 4) :
    Disjoint (rowsV (fst c j.val) (2 ^ j.val)) (rowsV (fst (prt c j) j.val) (2 ^ j.val)) :=
  Finset.disjoint_left.mpr fun i h h' => rows_apart c j (i 0) (mem_rowsV.mp h) (mem_rowsV.mp h')
theorem rowsV_all (c : Dev nD) : rowsV (fst c 4) (2 ^ 4) = Finset.univ := by
  ext i
  rw [mem_rowsV]
  refine ⟨fun _ => Finset.mem_univ _, fun _ => ?_⟩
  have h : fst c 4 = 0 := by revert c; decide
  rw [h]
  exact ⟨Nat.zero_le _, by rw [Nat.zero_add]; exact (i 0).isLt⟩
theorem rowsV_one (c : Dev nD) : fst c 0 = c.val := by unfold fst; rw [pow_zero, Nat.div_one, Nat.mul_one]

/-! ## Loops and row places -/

theorem trips1 : k0_t1_loop.trips = 1024 := by decide +kernel
theorem trips2 : k0_t2_loop.trips = 1024 := by decide +kernel
theorem trips3 : k0_t3_loop.trips = 1024 := by decide +kernel

/-- A trip's row. -/
abbrev rk (k : Fin k0_t1_loop.trips) : Fin 1024 := ⟨k.val, trips1 ▸ k.isLt⟩

theorem off10_eq : ∀ k : Fin k0_t1_loop.trips, k0_off10 k = ![k.val / 128, k.val % 128] := by decide +kernel

theorem dev21_eq (v : BitVec 32) : k0_dev21 v = v.toNat := by
  show (0#32 + v * 1#32).toNat = v.toNat
  rw [BitVec.mul_one, BitVec.zero_add]

theorem off11_eq (v : BitVec 32) : k0_off11 v = ![v.toNat, 0, 0] := rfl

end Cert.Route

end
-- ==== Proof.Deal.lean ====
/-
How a device's buffers are dealt out when the devices meet: its result is cut into the rows each device will write, its
table into the ranges its partners will write, and what a device gets from all the others is what its own copies need.
-/
module

public import proofs.«01_k».proof.Proof.Arith

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family that is nothing but at one place. -/
theorem bigSep_at {I : Type} [Fintype I] [DecidableEq I] (a : I) (Φ : I → sProp 𝕄) :
    (bigSep Finset.univ fun t => if t = a then Φ t else iprop(emp)) = Φ a := by
  refine (bigSep_filter Finset.univ (fun t => t = a) Φ).symm.trans ?_
  rw [Finset.filter_eq' Finset.univ a, if_pos (Finset.mem_univ a), bigSep_singleton]

/-- One more member of a family, and a family member by member, as entailments. -/
theorem bigSep_put {I : Type} [DecidableEq I] {s : Finset I} {i : I} (hi : i ∉ s) {Φ : I → sProp 𝕄} :
    bigSep (insert i s) Φ = iprop(Φ i ∗ bigSep s Φ) := bigSep_insert hi
theorem bigSep_take {I : Type} [DecidableEq I] {s : Finset I} {i : I} (hi : i ∈ s) {Φ : I → sProp 𝕄} :
    bigSep s Φ = iprop(Φ i ∗ bigSep (s.erase i) Φ) := bigSep_erase hi
theorem bigSep_each {I : Type} {s : Finset I} {Φ Ψ : I → sProp 𝕄} (h : ∀ i, Φ i ⊢ Ψ i) : bigSep s Φ ⊢ bigSep s Ψ :=
  bigSep_mono fun i _ => h i

/-- An array of 1024 rows is its rows. -/
theorem rows_all : (Finset.univ : Finset S1024x4x128.Idx) = Finset.univ.biUnion fun p : Fin 1024 => rowF p.val := by
  ext i
  have hi : i ∈ rowF (⟨(i 0).val, (i 0).isLt⟩ : Fin 1024).val := mem_rowF.mpr (Eq.refl (i 0).val)
  rw [Finset.mem_biUnion]
  refine ⟨fun _ => ?_, fun _ => Finset.mem_univ _⟩
  refine Exists.intro ⟨(i 0).val, (i 0).isLt⟩ (And.intro ?_ hi)
  exact Finset.mem_univ _
theorem rows_disj (t t' : Fin 1024) (h : t ≠ t') : Disjoint (rowF t.val) (rowF t'.val) :=
  Finset.disjoint_left.mpr fun i hi hi' => h (Fin.ext ((mem_rowF.mp hi).symm.trans (mem_rowF.mp hi')))

variable {D : Data F} (G : D.Good)

/-- The table, cut into the device's own row and its partners' ranges. -/
theorem tab_cut (e : Dev nD) (f : S16x128.Idx → BitVec 32) (n : ℕ) (hn : n ≤ 4) :
    tab (F := F) e (rowsV (fst e n) (2 ^ n)) f ⊢ iprop(tab e (rowsV (fst e 0) (2 ^ 0)) f
      ∗ bigSep (Finset.univ.filter fun j : Fin 4 => j.val < n) fun j => tab e (rowsV (fst (prt e j) j.val) (2 ^ j.val)) f) := by
  induction n with
  | zero =>
    rw [show (Finset.univ.filter fun j : Fin 4 => j.val < 0) = ∅ from Finset.filter_eq_empty_iff.mpr fun j _ => Nat.not_lt_zero _, bigSep_empty]
    iintro H
    isplitl [H]
    · iexact H
    · iempintro
  | succ n ih =>
    have hlt : n < 4 := hn
    have hs : (Finset.univ.filter fun j : Fin 4 => j.val < n + 1) = insert (⟨n, hlt⟩ : Fin 4) (Finset.univ.filter fun j : Fin 4 => j.val < n) := by
      ext j
      rw [Finset.mem_insert, Finset.mem_filter, Finset.mem_filter, Fin.ext_iff]
      show (_ ∧ j.val < n + 1) ↔ j.val = n ∨ (_ ∧ j.val < n)
      have := Finset.mem_univ j
      constructor
      · intro h; have h' := h.2; rcases Nat.lt_succ_iff_lt_or_eq.mp h' with h'' | h''
        · exact Or.inr ⟨this, h''⟩
        · exact Or.inl h''
      · intro h; rcases h with h | h
        · exact ⟨this, by omega⟩
        · exact ⟨this, by omega⟩
    have hni : (⟨n, hlt⟩ : Fin 4) ∉ (Finset.univ.filter fun j : Fin 4 => j.val < n) :=
      fun h => absurd (Finset.mem_filter.mp h).2 (Nat.lt_irrefl n)
    rw [hs, bigSep_put hni]
    have hu := rowsV_next e ⟨n, hlt⟩
    dsimp only at hu
    unfold tab at *
    rw [hu]
    refine (pointsTo_union (rowsV_apart e ⟨n, hlt⟩)).1.trans ?_
    iintro ⟨H, Hn⟩
    ihave ⟨H0, Hr⟩ := (ih (by omega)) $$ H
    isplitl [H0]
    · iexact H0
    isplitl [Hn]
    · iexact Hn
    · iexact Hr

theorem tab_split (e : Dev nD) (f : S16x128.Idx → BitVec 32) :
    tab (F := F) e Finset.univ f ⊢ iprop(tab e (rowsV (fst e 0) (2 ^ 0)) f
      ∗ bigSep Finset.univ fun j : Fin 4 => tab e (rowsV (fst (prt e j) j.val) (2 ^ j.val)) f) := by
  have h := tab_cut (F := F) e f 4 (le_refl 4)
  rw [rowsV_all, show (Finset.univ.filter fun j : Fin 4 => j.val < 4) = Finset.univ from Finset.filter_true_of_mem fun j _ => j.isLt] at h
  exact h

/-- The result, and the rows sent, row by row. -/
theorem orow_rows (e : Dev nD) (f : S1024x4x128.Idx → Elt F .bf16) :
    orow e Finset.univ f = bigSep Finset.univ fun p : Fin 1024 => orow e (rowF p.val) f :=
  (congrArg (fun I => orow e I f) rows_all).trans
    (pointsTo_biUnion (ℓ := (Dev.tc e : Thread nD τ).loc main_v21) Finset.univ (fun p : Fin 1024 => rowF p.val) fun t _ t' _ h => rows_disj t t' h)
theorem xrow_rows (e : Dev nD) (f : S1024x4x128.Idx → Elt F .bf16) :
    xrow e Finset.univ f = bigSep Finset.univ fun p : Fin 1024 => xrow e (rowF p.val) f :=
  (congrArg (fun I => xrow e I f) rows_all).trans
    (pointsTo_biUnion (ℓ := (Dev.tc e : Thread nD τ).loc main_v20) Finset.univ (fun p : Fin 1024 => rowF p.val) fun t _ t' _ h => rows_disj t t' h)

include G in
/-- The rows device `e` hands out are all the rows of its result. -/
theorem giveRows_all (e : Dev nD) :
    (bigSep Finset.univ fun c : Dev nD => bigSep Finset.univ fun k : Fin 1024 => giveRow D e c k)
      = bigSep Finset.univ fun p : Fin 1024 => (iprop(∃ f, orow e (rowF p.val) f) : sProp 𝕄) := by
  have h1 : (bigSep Finset.univ fun c : Dev nD => bigSep Finset.univ fun k : Fin 1024 => giveRow D e c k)
      = bigSep Finset.univ fun ck : Dev nD × Fin 1024 => if (G.perm ck).1 = e then (iprop(∃ f, orow e (rowF (G.perm ck).2.val) f) : sProp 𝕄) else iprop(emp) := by
    rw [bigSep_univ_prod]
    refine bigSep_congr fun c _ => bigSep_congr fun k _ => ?_
    rw [G.perm_apply]
    unfold giveRow
    by_cases h : D.dst c k = e.val
    · rw [if_pos h, if_pos (Fin.ext h)]; rfl
    · rw [if_neg h, if_neg (fun h' => h (congrArg Fin.val h'))]
  rw [h1, bigSep_univ_equiv G.perm.symm]
  simp only [Equiv.apply_symm_apply]
  rw [bigSep_univ_prod, bigSep_univ_comm]
  exact bigSep_congr fun p _ => bigSep_at e fun d => iprop(∃ f, orow e (rowF p.val) f)

/-- The ranges it hands out are its partners'. -/
theorem giveTabs_all (e : Dev nD) :
    (bigSep Finset.univ fun c : Dev nD => bigSep Finset.univ fun j : Fin 4 => giveTab (F := F) e c j)
      = bigSep Finset.univ fun j : Fin 4 => iprop((∃ f, tab e (rowsV (fst (prt e j) j.val) (2 ^ j.val)) f) ∗ reached ER (kc e (iR j)) 0) := by
  rw [bigSep_univ_comm]
  refine bigSep_congr fun j _ => ?_
  rw [← bigSep_at (prt e j) (fun c => (iprop((∃ f, tab e (rowsV (fst c j.val) (2 ^ j.val)) f) ∗ reached ER (kc e (iR j)) 0) : sProp 𝕄))]
  refine bigSep_congr fun c _ => ?_
  unfold giveTab
  by_cases h : e = prt c j
  · rw [if_pos h, if_pos (by rw [h, prt_prt])]
  · rw [if_neg h, if_neg (fun h' => h (by rw [h', prt_prt]))]

include G in
/-- A device deals its result and its table out, keeping its own row. -/
theorem carve (e : Dev nD) :
    iprop((∃ f, orow e Finset.univ f) ∗ (∃ f, tab e Finset.univ f) ∗ (bigSep Finset.univ fun j : Fin 4 => reached ER (kc e (iR j)) 0) ∗ reached ER (kc e 9) 0)
      ⊢ (iprop((∃ f, tab e (rowsV (fst e 0) (2 ^ 0)) f) ∗ bigSep Finset.univ fun c => giv D e c) : sProp 𝕄) := by
  unfold giv
  rw [bigSep_sep', bigSep_sep', giveRows_all G, giveTabs_all, bigSep_sep']
  iintro ⟨⟨%f, Ho⟩, ⟨%g, Ht⟩, #Hr, #H9⟩
  ihave ⟨H0, Ht⟩ := tab_split e g $$ Ht
  isplitl [H0]
  · iexists g; iexact H0
  isplitl [Ho]
  · have h0 := Entails.of_eq (orow_rows e f)
    have h : (bigSep Finset.univ fun p : Fin 1024 => orow e (rowF p.val) f) ⊢ (bigSep Finset.univ fun p : Fin 1024 => iprop(∃ f, orow e (rowF p.val) f) : sProp 𝕄) :=
      bigSep_each fun p => by iintro H; iexists f; iexact H
    iapply (h0.trans h) $$ Ho
  isplitl [Ht]
  · isplitl [Ht]
    · have h : (bigSep Finset.univ fun j : Fin 4 => tab (F := F) e (rowsV (fst (prt e j) j.val) (2 ^ j.val)) g)
          ⊢ (bigSep Finset.univ fun j : Fin 4 => iprop(∃ f, tab e (rowsV (fst (prt e j) j.val) (2 ^ j.val)) f) : sProp 𝕄) :=
        bigSep_each fun j => by iintro H; iexists g; iexact H
      iapply h $$ Ht
    · iexact Hr
  · have h : (reached ER (kc e 9) 0 : sProp 𝕄) ⊢ (bigSep Finset.univ fun c : Dev nD => reached ER (kc e 9) 0 : sProp 𝕄) := bigSep_of_persistent Finset.univ _
    iapply h $$ H9

/-- What a device has from all the others: the places of its rows, and its partners' ranges. -/
theorem collect (c : Dev nD) :
    (bigSep Finset.univ fun e : Dev nD => giv D e c)
      ⊢ (iprop((bigSep Finset.univ fun k : Fin 1024 => iprop(∃ f, orow (G.to (c, k)).1 (rowF (D.pos c k)) f))
        ∗ (bigSep Finset.univ fun j : Fin 4 => iprop((∃ f, tab (prt c j) (rowsV (fst c j.val) (2 ^ j.val)) f) ∗ reached ER (kc (prt c j) (iR j)) 0))
        ∗ bigSep Finset.univ fun e : Dev nD => reached ER (kc e 9) 0) : sProp 𝕄) := by
  unfold giv
  rw [bigSep_sep', bigSep_sep', bigSep_univ_comm, bigSep_univ_comm (fun (e : Dev nD) (j : Fin 4) => giveTab (F := F) e c j)]
  refine BIClass.sep_mono (Entails.of_eq (bigSep_congr fun k _ => ?_)) (BIClass.sep_mono (Entails.of_eq (bigSep_congr fun j _ => ?_)) .rfl)
  · rw [← bigSep_at (G.to (c, k)).1 (fun e => (iprop(∃ f, orow e (rowF (D.pos c k)) f) : sProp 𝕄))]
    refine bigSep_congr fun e _ => ?_
    unfold giveRow
    by_cases h : D.dst c k = e.val
    · rw [if_pos h, if_pos (Fin.ext h.symm)]
    · rw [if_neg h, if_neg (fun h' => h (congrArg Fin.val h').symm)]
  · exact bigSep_at (prt c j) (fun e => (iprop((∃ f, tab e (rowsV (fst c j.val) (2 ^ j.val)) f) ∗ reached ER (kc e (iR j)) 0) : sProp 𝕄))

/-- What the meeting's signals bring, with a device's own share. -/
theorem met (c : Dev nD) :
    iprop(giv D c c ∗ bigSep ((Finset.range 16).erase c.val) fun d => giv D (dv d) c) ⊢ (bigSep Finset.univ fun e : Dev nD => giv D e c : sProp 𝕄) := by
  have h : (Finset.range 16).erase c.val = (Finset.univ.erase c).map ⟨Fin.val, Fin.val_injective⟩ := by
    ext d
    rw [Finset.mem_erase, Finset.mem_range, Finset.mem_map]
    constructor
    · intro hd; exact ⟨⟨d, hd.2⟩, Finset.mem_erase.mpr ⟨fun h => hd.1 (congrArg Fin.val h), Finset.mem_univ _⟩, rfl⟩
    · rintro ⟨e, he, rfl⟩
      exact ⟨fun h => (Finset.mem_erase.mp he).1 (Fin.ext h), e.isLt⟩
  rw [h, bigSep_map, bigSep_univ_split c]
  refine BIClass.sep_mono .rfl (Entails.of_eq (bigSep_congr fun e _ => ?_))
  show giv D (dv e.val) c = giv D e c
  rw [dv_val]

end Cert.Route

end
-- ==== Proof.Steps.lean ====
/-
One lemma per kind of step of the kernel: a signal of the meeting, its wait, the sending and the waits of an exchange,
the local copy, the sending of one row, and the wait for one row.
-/
module

public import proofs.«01_k».proof.Proof.Deal

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {D : Data F} (G : D.Good)

/-! ## The meeting -/

/-- A signal to device `n` hands over what `n` gets from `c`. -/
theorem step_signal {α : Type} {Q : α → sProp 𝕄} {k : PUnit → Prog (TpuEff nD τ sig (Elt F) Λ₀ .tc) α} (κ : ℕ) (c n : Dev nD) (hn : n ≠ c) (O : CellTallies nD τ sig Unit) (W : Waits sig Unit) :
    iprop(cellInv ER (Rd G) κ (bar n) ∗ owes (c : Thread nD τ) (O + tallyAt (bar n) () 1) W ∗ dutyTok ER (bar n) 0 c.val ∗ giv D c n ∗ reached ER (bar n) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  rw [show (1#32 : BitVec 32).toInt = ((1#32 : BitVec 32).toNat : Int) from rfl]
  iintro ⟨HI, HO, Ht, Hp, Hr⟩ Hk
  have hd : c.val ∈ (Rd G).duties (bar n) 0 := by
    rw [duties_bar]; exact Finset.mem_erase.mpr ⟨fun h => hn (Fin.ext h.symm), Finset.mem_range.mpr c.isLt⟩
  iapply (Rounds.wp_signal 𝒱₀ ER (Rd G) (c : Thread nD τ) none (dst := (n : Thread nD τ)) (κ := κ) hd
      (show (Rd G).amount (bar n) 0 c.val = (1#32 : BitVec 32).toNat from rfl) () (O₀ := O + tallyAt (bar n) () 1) O rfl) $$ [HI HO Ht Hp Hr]
  · isplitl [HI]; · iexact HI
    isplitl [HO]; · iexact HO
    isplitl [Ht]; · iexact Ht
    isplitl [Hp]
    · rw [payload_bar, dv_val]; iexact Hp
    iexact Hr
  iexact Hk

/-- What is still to be signalled from device `n` on. -/
def toSignal (D : Data F) (c : Dev nD) (n : ℕ) : sProp 𝕄 :=
  bigSep (Finset.univ.filter fun k : Dev nD => n ≤ k.val ∧ k ≠ c) fun k => iprop(dutyTok ER (bar k) 0 c.val ∗ giv D c k)

theorem filter_skip (c n : Dev nD) (h : n = c) :
    (Finset.univ.filter fun k : Dev nD => n.val ≤ k.val ∧ k ≠ c) = Finset.univ.filter fun k : Dev nD => n.val + 1 ≤ k.val ∧ k ≠ c := by
  subst h
  refine Finset.filter_congr fun k _ => ⟨fun hk => ⟨?_, hk.2⟩, fun hk => ⟨by omega, hk.2⟩⟩
  have : k.val ≠ n.val := fun h' => hk.2 (Fin.ext h')
  omega
theorem filter_step (c n : Dev nD) (h : n ≠ c) :
    (Finset.univ.filter fun k : Dev nD => n.val ≤ k.val ∧ k ≠ c) = insert n (Finset.univ.filter fun k : Dev nD => n.val + 1 ≤ k.val ∧ k ≠ c) := by
  ext k
  rw [Finset.mem_insert, Finset.mem_filter, Finset.mem_filter]
  constructor
  · intro hk
    by_cases e : k = n
    · exact Or.inl e
    · have : k.val ≠ n.val := fun h' => e (Fin.ext h')
      exact Or.inr ⟨hk.1, by omega, hk.2.2⟩
  · rintro (rfl | hk)
    · exact ⟨Finset.mem_univ _, le_refl _, h⟩
    · exact ⟨hk.1, by omega, hk.2.2⟩
theorem notMem_step (c n : Dev nD) : n ∉ (Finset.univ.filter fun k : Dev nD => n.val + 1 ≤ k.val ∧ k ≠ c) := fun h => by
  have := (Finset.mem_filter.mp h).2.1; omega

/-- One of the meeting's sixteen conditional signals. -/
theorem step_meet {α β : Type} {Q : α → sProp 𝕄} {R : Prog (TpuEff nD τ sig (Elt F) Λ₀ .tc) β} {k : β → Prog (TpuEff nD τ sig (Elt F) Λ₀ .tc) α} (κ : GSem nD τ sig → ℕ) (c n : Dev nD) (P : Prop) [Decidable P] (hP : P ↔ n ≠ c)
    (n' : P → Dev nD) (hn' : ∀ h, n' h = n)
    (O : CellTallies nD τ sig Unit) (W : Waits sig Unit) :
    iprop(cellInv ER (Rd G) (κ (bar n)) (bar n) ∗ reached ER (bar n) 0 ∗ owes (c : Thread nD τ) (owB c n.val + O) W ∗ toSignal D c n.val)
      ⊢ iprop(((owes (c : Thread nD τ) (owB c (n.val + 1) + O) W ∗ toSignal D c (n.val + 1))
            -∗ wp frame (wpE (defs₀ (F := F)) 𝒱₀ (c : Thread nD τ) none) Set.univ (R >>= k) Q)
          -∗ wp frame (wpE (defs₀ (F := F)) 𝒱₀ (c : Thread nD τ) none) Set.univ (((if h : P then .op (.semSignal (Dev.tc (n' h)) barS (1#32 : BitVec 32).toInt) (fun _ => R) else R) : Prog (TpuEff nD τ sig (Elt F) Λ₀ .tc) β) >>= k) Q) := by
  by_cases h : P
  · have hn := hP.mp h
    rw [dif_pos h, hn' h]
    have hO : owB c n.val + O = (owB c (n.val + 1) + O) + tallyAt (bar n) () 1 := by
      unfold owB; rw [filter_step c n hn, Finset.sum_insert (notMem_step c n)]; abel
    have hT : toSignal D c n.val = iprop((dutyTok ER (bar n) 0 c.val ∗ giv D c n) ∗ toSignal D c (n.val + 1)) := by
      unfold toSignal; rw [filter_step c n hn]; exact bigSep_put (notMem_step c n)
    rw [hO, hT]
    iintro ⟨HI, Hr, HO, ⟨Ht, Hg⟩, HS⟩ Hk
    simp only [Prog.bind_op]
    iapply (step_signal G (κ (bar n)) c n hn (owB c (n.val + 1) + O) W) $$ [HI HO Ht Hg Hr]
    · isplitl [HI]; · iexact HI
      isplitl [HO]; · iexact HO
      isplitl [Ht]; · iexact Ht
      isplitl [Hg]; · iexact Hg
      iexact Hr
    iintro HO
    iapply Hk
    isplitl [HO] <;> iassumption
  · have hn : n = c := by by_contra hne; exact h (hP.mpr hne)
    rw [dif_neg h]
    have hO : owB c n.val = owB c (n.val + 1) := by unfold owB; rw [filter_skip c n hn]
    have hT : toSignal D c n.val = toSignal D c (n.val + 1) := by unfold toSignal; rw [filter_skip c n hn]
    rw [hO, hT]
    iintro ⟨HI, Hr, HO, HS⟩ Hk
    iapply Hk
    isplitl [HO] <;> iassumption

/-- The meeting's wait. -/
theorem step_met {α : Type} {Q : α → sProp 𝕄} {k : PUnit → Prog (TpuEff nD τ sig (Elt F) Λ₀ .tc) α} (κ : ℕ) (c : Dev nD) (O : CellTallies nD τ sig Unit) (W : Waits sig Unit) :
    iprop(cellInv ER (Rd G) κ (bar c) ∗ cred (tallyAt (bar c) () 15) ∗ owes (c : Thread nD τ) O W ∗ MayWait (c : Thread nD τ) (.reg barS) () O ∗ atPos ER (bar c) 0 ∅ 0)
      ⊢ iprop(((owes (c : Thread nD τ) O (insert (SemLoc.reg barS, ()) W) ∗ atPos ER (bar c) 1 ∅ 0 ∗ bigSep ((Finset.range 16).erase c.val) fun d => giv D (dv d) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32 : BitVec 32).toInt) k) Q) := by
  rw [show (15#32 : BitVec 32).toInt = ((15#32 : BitVec 32).toNat : Int) from rfl]
  iintro ⟨HI, Hc, HO, Hm, Hat⟩ Hk
  iapply (Rounds.wp_wait_rest_token 𝒱₀ ER (Rd G) (c : Thread nD τ) none (κ := κ)
      (wpE_semWait_eq 𝒱₀ (c : Thread nD τ) none Set.univ) (Set.mem_univ _) () (O := O) (W := W) (R := 0) (m := 0) (T := ∅)
      (by rw [expect_bar]; decide)) $$ [HI Hc HO Hm Hat]
  · isplitl [HI]; · iexact HI
    isplitl [Hc]; · iexact Hc
    isplitl [HO]; · iexact HO
    isplitl [Hm]; · iexact Hm
    iexact Hat
  rw [duties_bar, Finset.sdiff_empty]
  iintro ⟨HO, Hat, -, Hp⟩
  iapply Hk
  isplitl [HO]; · iexact HO
  isplitl [Hat]; · iexact Hat
  iexact Hp

/-! ## A wait for the one duty of a cell -/

theorem step_wait {α : Type} {Q : α → sProp 𝕄} {k : PUnit → Prog (TpuEff nD τ sig (Elt F) Λ₀ .tc) α} (κ : ℕ) (c : Dev nD) (i : Fin 11) (N : ℕ) (hdut : (Rd G).duties (kc c i) 0 = {0}) (hamt : (Rd G).amount (kc c i) 0 0 = N)
    {sp sp' : Space} {s s' : Shape} {e e' : EltTy} {κ' : Kind} (q : DmaSem sig) (hq : q = own i)
    (src : Memref sig (c : Thread nD τ).2.kind sp' s' e') (dst : Memref sig κ' sp s e) (hsrc : src.view.WordExact) (hdst : dst.view.WordExact)
    (hN : dst.view.dmaCredit = N) (O : CellTallies nD τ sig Unit) (W : Waits sig Unit) :
    iprop(cellInv ER (Rd G) κ (kc c i) ∗ cred (tallyAt (kc c i) () N) ∗ owes (c : Thread nD τ) O W ∗ MayWait (c : Thread nD τ) (.dma (own i)) () O ∗ atPos ER (kc c i) 0 ∅ 0)
      ⊢ iprop(((owes (c : Thread nD τ) O (insert (SemLoc.dma (own i), ()) W) ∗ atPos ER (kc c i) 1 ∅ 0 ∗ (Rd G).payload (kc c i) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hN
  iintro ⟨HI, Hc, HO, Hm, Hat⟩ Hk
  iapply (Rounds.wp_wait_rest_token 𝒱₀ ER (Rd G) (c : Thread nD τ) none (κ := κ)
      (wpE_waitDma2_eq 𝒱₀ (c : Thread nD τ) none Set.univ) (Set.mem_univ _) () (O := O) (W := W) (R := 0) (m := 0) (T := ∅)
      (by rw [expect_one G hdut hamt, Nat.zero_add])) $$ [HI Hc HO Hm Hat]
  · isplitl [HI]; · iexact HI
    isplitl [Hc]; · iexact Hc
    isplitl [HO]; · iexact HO
    isplitl [Hm]; · iexact Hm
    iexact Hat
  rw [hdut, Finset.sdiff_empty, bigSep_singleton]
  iintro ⟨HO, Hat, -, Hp⟩
  iapply Hk
  isplitl [HO]; · iexact HO
  isplitl [Hat]; · iexact Hat
  iexact Hp

/-! ## An exchange -/

abbrev cM : Memref sig .tc .vmem S16x128 .i32 := Memref.whole cc0_scratch0

/-- The sending of exchange `j`: the device's rows so far, to its partner. -/
theorem step_exch {α : Type} {Q : α → sProp 𝕄} {k : PUnit → Prog (TpuEff nD τ sig (Elt F) Λ₀ .tc) α} (κ₁ κ₂ : ℕ) (c : Dev nD) (j : Fin 4) (r : Rect S16x128) (hr : ∀ a, r.stride a = 1)
    (hset : r.set = rowsV (fst c j.val) (2 ^ j.val))
    (hN : (cM.slice r hr).view.dmaCredit = NB j.val) (n : Dev nD) (hn : n = prt c j) (qS qR : DmaSem sig) (hqS : qS = own (iS j)) (hqR : qR = own (iR j))
    (hsc : (cM.slice r hr).view.ref.isScScratch = false) (hsrc hdst : (cM.slice r hr).view.WordExact)
    (hsem : DmaTarget.Typed (nD := nD) (τ := τ) .vmem (.dma qR) (.remote (Dev.tc n) (cM.slice r hr) (.dma qS) hsc))
    (f : S16x128.Idx → BitVec 32) (O : CellTallies nD τ sig Unit) (W : Waits sig Unit) :
    iprop(cellInv ER (Rd G) κ₁ (kc c (iS j)) ∗ cellInv ER (Rd G) κ₂ (kc (prt c j) (iR j))
        ∗ tab c (rowsV (fst c j.val) (2 ^ j.val)) D.gath ∗ tab (prt c j) (rowsV (fst c j.val) (2 ^ j.val)) f
        ∗ owes (c : Thread nD τ) (O + tallyAt (kc (prt c j) (iR j)) () (NB j.val)) W
        ∗ dutyTok ER (kc c (iS j)) 0 0 ∗ reached ER (kc c (iS j)) 0 ∗ dutyTok ER (kc (prt c j) (iR j)) 0 0 ∗ reached ER (kc (prt c j) (iR j)) 0)
      ⊢ iprop(((cred (tallyAt (kc c (iS j)) () (NB j.val)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cM.slice r hr) (.remote (Dev.tc n) (cM.slice r hr) (.dma qS) hsc) (.dma qR) hsrc hdst hsem) k) Q) := by
  subst hn hqS hqR
  have hs : (cM.slice r hr).view.set = rowsV (fst c j.val) (2 ^ j.val) := by
    rw [← hset]; exact View.set_slice_whole cc0_scratch0 r
  iintro ⟨HI, HI', Hs, Hd, HO, Ht, Hr, Ht', Hr'⟩ Hk
  iapply (Rounds.wp_send_pointsTo 𝒱₀ ER (Rd G) (c : Thread nD τ) none (c' := (Dev.tc (prt c j) : Thread nD τ)) (src := cM.slice r hr) (dst := cM.slice r hr)
      (q := fullShare) (fs := D.gath) (fd := f) (r₁ := 0) (r₂ := 0) (d₁ := 0) (d₂ := 0) (κ₁ := κ₁) (κ₂ := κ₂)
      (by rw [duties_S]; exact Finset.mem_singleton_self _) (by rw [duties_R]; exact Finset.mem_singleton_self _)
      () () (NB j.val) (by rw [View.amount_dma]; exact hN) (amount_S G c j 0 0) (amount_R G (prt c j) j 0 0) O rfl
      (by rw [payload_S, hs]) (by
        rw [payload_R, prt_prt, hs]
        refine Entails.of_eq (pointsTo_congr fun i hi => ?_)
        rw [View.write_read_eq_piecewise]
        exact Finset.piecewise_eq_of_mem _ _ _ (by
          show i ∈ (cM.slice r hr).view.set
          rw [hs]; exact hi))) $$ [HI HI' Hs Hd HO Ht Hr Ht' Hr']
  · isplitl [HI]; · iexact HI
    isplitl [HI']; · iexact HI'
    isplitl [Hs]; · rw [hs]; iexact Hs
    isplitl [Hd]; · rw [hs]; iexact Hd
    isplitl [HO]; · iexact HO
    isplitl [Ht]; · iexact Ht
    isplitl [Hr]; · iexact Hr
    isplitl [Ht']; · iexact Ht'
    iexact Hr'
  iexact Hk

/-! ## The copy of the positions -/

abbrev vM : Memref sig .tc .vmem S8x128 .i32 := Memref.whole cc0_scratch2
abbrev sM : Memref sig .tc .smem S8x128 .i32 := Memref.whole cc0_scratch1

theorem step_copy {α : Type} {Q : α → sProp 𝕄} {k : PUnit → Prog (TpuEff nD τ sig (Elt F) Λ₀ .tc) α} (κ : ℕ) (c : Dev nD) (q : DmaSem sig) (hq : q = own 10) (hsrc : vM.view.WordExact) (hdst : sM.view.WordExact)
    (hsem : DmaTarget.Typed (nD := nD) (τ := τ) .vmem (.dma q) (DmaTarget.here (p := (Proc.tc : Proc τ)) sM)) (f : S8x128.Idx → BitVec 32) :
    iprop(cellInv ER (Rd G) κ (kc c 10) ∗ pvm c (D.pvec c) ∗ psm c f ∗ dutyTok ER (kc c 10) 0 0 ∗ reached ER (kc c 10) 0)
      ⊢ iprop((cred (tallyAt (kc c 10) () NCP) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma vM (.here sM) (.dma q) hsrc hdst hsem) k) Q) := by
  subst hq
  iintro ⟨HI, Hv, Hs, Ht, Hr⟩ Hk
  have hpay : iprop((((Dev.tc c : Thread nD τ).loc sM.view.ref) ↦[sM.view.set]{fullShare} (sM.view.write (Elt F) f (vM.view.read (Elt F) (D.pvec c)) Finset.univ))
      ∗ (((Dev.tc c : Thread nD τ).loc vM.view.ref) ↦[vM.view.set]{fullShare} (D.pvec c))) ⊢ (Rd G).payload (kc c 10) 0 0 := by
    rw [payload_10]
    have e : sM.view.write (Elt F) f (vM.view.read (Elt F) (D.pvec c)) Finset.univ = D.pvec c := by
      simp only [Memref.view_whole, View.read_whole]
      exact View.write_whole_univ (Val := Elt F) cc0_scratch1 f (D.pvec c)
    rw [e]
    have e1 : sM.view.set = Finset.univ := View.set_whole _
    have e2 : vM.view.set = Finset.univ := View.set_whole _
    rw [e1, e2]
    iintro ⟨H1, H2⟩
    isplitl [H2]
    · iexact H2
    · iexact H1
  iapply (Rounds.wp_copy_pointsTo 𝒱₀ ER (Rd G) (c : Thread nD τ) none (src := vM) (dst := sM) (q := fullShare) (fs := D.pvec c) (fd := f) (κ := κ)
      (r := 0) (d := 0) (by rw [duties_10]; exact Finset.mem_singleton_self _) () NCP rfl (amount_10 G c 0 0) hpay) $$ [HI Hv Hs Ht Hr]
  · isplitl [HI]; · iexact HI
    isplitl [Hv]; · simp only [Memref.view_whole, View.set_whole]; iexact Hv
    isplitl [Hs]; · simp only [Memref.view_whole, View.set_whole]; iexact Hs
    isplitl [Ht]; · iexact Ht
    iexact Hr
  iexact Hk

/-! ## Rows -/

abbrev xM : Memref sig .tc .hbm S1024x4x128 .bf16 := Memref.whole main_v20
abbrev oM : Memref sig .tc .hbm S1024x4x128 .bf16 := Memref.whole main_v21

/-- A row copied to a row reads there what the source has at the same place of its row. -/
theorem row_value (c : Dev nD) (i : Fin 1024) (off off' : Fin 3 → ℕ) (hoff : off = ![i.val, 0, 0]) (hoff' : off' = ![D.pos c i, 0, 0])
    (inb : ∀ a, off a + S1x4x128.size a ≤ S1024x4x128.size a) (inb' : ∀ a, off' a + S1x4x128.size a ≤ S1024x4x128.size a)
    (f : S1024x4x128.Idx → Elt F .bf16) (y : S1024x4x128.Idx) (hy : y ∈ rowF (D.pos c i)) :
    (oM.slice (Rect.unit (s := S1024x4x128) off' S1x4x128.size inb') (fun _ => rfl)).view.write (Elt F) f
      ((xM.slice (Rect.unit (s := S1024x4x128) off S1x4x128.size inb) (fun _ => rfl)).view.read (Elt F) (D.x c)) Finset.univ y
      = G.outv (G.to (c, i)).1 y := by
  have hy' : y ∈ (oM.slice (Rect.unit (s := S1024x4x128) off' S1x4x128.size inb') (fun _ => rfl)).view.set := by
    rw [← row_set (D.pos c i) off' hoff' inb'] at hy
    exact (View.set_slice_whole main_v21 (Rect.unit (s := S1024x4x128) off' S1x4x128.size inb')).symm ▸ hy
  obtain ⟨j, rfl⟩ := View.exists_emb_of_mem_set _ hy'
  rw [View.write_emb_of_mem _ _ (Finset.mem_univ j)]
  have hp : (((oM.slice (Rect.unit (s := S1024x4x128) off' S1x4x128.size inb') (fun _ => rfl)).view.emb j 0 : Fin 1024)) = (G.to (c, i)).2 :=
    Fin.ext (mem_rowF.mp hy)
  have he : (((G.to (c, i)).1, ((oM.slice (Rect.unit (s := S1024x4x128) off' S1x4x128.size inb') (fun _ => rfl)).view.emb j 0 : Fin 1024)) : Dev nD × Fin 1024) = G.perm (c, i) := by
    rw [hp]; rfl
  show _ = D.x (G.perm.symm _).1 (Function.update _ 0 ((G.perm.symm _).2 : Fin 1024))
  rw [he, Equiv.symm_apply_apply]
  show D.x c _ = D.x c _
  refine congrArg (D.x c) (funext fun a => Fin.ext ?_)
  subst hoff hoff'
  have hj : (j 0).val = 0 := by have := (j 0).isLt; show (j 0).val = 0; exact Nat.lt_one_iff.mp this
  have e1 := ValueKit.view_emb_slice_whole_unit_val main_v20 ![i.val, 0, 0] S1x4x128.size inb j a
  have e2 := ValueKit.view_emb_slice_whole_unit_val main_v21 ![D.pos c i, 0, 0] S1x4x128.size inb' j a
  refine e1.trans ?_
  match a with
  | ⟨0, _⟩ =>
    show i.val + (j 0).val = i.val
    omega
  | ⟨1, _⟩ => exact e2.symm
  | ⟨2, _⟩ => exact e2.symm

/-- The sending of row `i`. -/
theorem step_row {α : Type} {Q : α → sProp 𝕄} {k : PUnit → Prog (TpuEff nD τ sig (Elt F) Λ₀ .tc) α} (κ₁ κ₂ : ℕ) (c : Dev nD) (i : Fin 1024)
    (off off' : Fin 3 → ℕ) (hoff : off = ![i.val, 0, 0]) (hoff' : off' = ![D.pos c i, 0, 0])
    (inb : ∀ a, off a + S1x4x128.size a ≤ S1024x4x128.size a) (inb' : ∀ a, off' a + S1x4x128.size a ≤ S1024x4x128.size a)
    (n : Dev nD) (hn : n = (G.to (c, i)).1) (qS qR : DmaSem sig) (hqS : qS = own 8) (hqR : qR = own 9)
    (hsc : (oM.slice (Rect.unit (s := S1024x4x128) off' S1x4x128.size inb') (fun _ => rfl)).view.ref.isScScratch = false)
    (hsrc : (xM.slice (Rect.unit (s := S1024x4x128) off S1x4x128.size inb) (fun _ => rfl)).view.WordExact)
    (hdst : (oM.slice (Rect.unit (s := S1024x4x128) off' S1x4x128.size inb') (fun _ => rfl)).view.WordExact)
    (hsem : DmaTarget.Typed (nD := nD) (τ := τ) .hbm (.dma qR)
      (.remote (Dev.tc n) (oM.slice (Rect.unit (s := S1024x4x128) off' S1x4x128.size inb') (fun _ => rfl)) (.dma qS) hsc))
    (f : S1024x4x128.Idx → Elt F .bf16) (O : CellTallies nD τ sig Unit) (W : Waits sig Unit) :
    iprop(cellInv ER (Rd G) κ₁ (kc c 8) ∗ cellInv ER (Rd G) κ₂ (kc (G.to (c, i)).1 9)
        ∗ xrow c (rowF i.val) (D.x c) ∗ orow (G.to (c, i)).1 (rowF (D.pos c i)) f
        ∗ owes (c : Thread nD τ) (O + tallyAt (kc (G.to (c, i)).1 9) () NROW) W
        ∗ dutyTok ER (kc c 8) 0 i.val ∗ reached ER (kc c 8) 0 ∗ dutyTok ER (kc (G.to (c, i)).1 9) 0 (D.pos c i) ∗ reached ER (kc (G.to (c, i)).1 9) 0)
      ⊢ iprop(((cred (tallyAt (kc c 8) () NROW) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S1024x4x128) off S1x4x128.size inb) (fun _ => rfl))
                (.remote (Dev.tc n) (oM.slice (Rect.unit (s := S1024x4x128) off' S1x4x128.size inb') (fun _ => rfl)) (.dma qS) hsc) (.dma qR) hsrc hdst hsem) k) Q) := by
  subst hn hqS hqR
  have hs : (xM.slice (Rect.unit (s := S1024x4x128) off S1x4x128.size inb) (fun _ => rfl)).view.set = rowF i.val := by
    rw [← row_set i.val off hoff inb]; exact View.set_slice_whole main_v20 _
  have hs' : (oM.slice (Rect.unit (s := S1024x4x128) off' S1x4x128.size inb') (fun _ => rfl)).view.set = rowF (D.pos c i) := by
    rw [← row_set (D.pos c i) off' hoff' inb']; exact View.set_slice_whole main_v21 _
  iintro ⟨HI, HI', Hs, Hd, HO, Ht, Hr, Ht', Hr'⟩ Hk
  iapply (Rounds.wp_send_pointsTo 𝒱₀ ER (Rd G) (c : Thread nD τ) none (c' := (Dev.tc (G.to (c, i)).1 : Thread nD τ))
      (src := xM.slice (Rect.unit (s := S1024x4x128) off S1x4x128.size inb) (fun _ => rfl))
      (dst := oM.slice (Rect.unit (s := S1024x4x128) off' S1x4x128.size inb') (fun _ => rfl))
      (q := fullShare) (fs := D.x c) (fd := f) (r₁ := 0) (r₂ := 0) (d₁ := i.val) (d₂ := D.pos c i) (κ₁ := κ₁) (κ₂ := κ₂)
      (by rw [duties_8]; exact Finset.mem_range.mpr i.isLt) (by rw [duties_9]; exact Finset.mem_range.mpr (G.pos_lt c i))
      () () NROW (by rw [View.amount_dma]; rfl) (amount_8 G c 0 _) (amount_9 G (G.to (c, i)).1 0 _) O rfl
      (by rw [payload_8, hs]) (by
        rw [payload_9, hs']
        exact Entails.of_eq (pointsTo_congr fun y hy => row_value G c i off off' hoff hoff' inb inb' f y hy))) $$ [HI HI' Hs Hd HO Ht Hr Ht' Hr']
  · isplitl [HI]; · iexact HI
    isplitl [HI']; · iexact HI'
    isplitl [Hs]; · rw [hs]; iexact Hs
    isplitl [Hd]; · rw [hs']; iexact Hd
    isplitl [HO]; · iexact HO
    isplitl [Ht]; · iexact Ht
    isplitl [Hr]; · iexact Hr
    isplitl [Ht']; · iexact Ht'
    iexact Hr'
  iexact Hk

/-- What a device holds after `m` of the waits for the rows of a semaphore: some rows that have landed, and the right to
    the rest; after all of them, every row. -/
def drained (c : Dev nD) (i : Fin 11) (m : ℕ) : sProp 𝕄 :=
  if m < 1024 then
    iprop(∃ (S : Finset ℕ) (W : Waits sig Unit), ⌜S ⊆ Finset.range 1024⌝ ∗ atPos ER (kc c i) 0 S (m * NROW)
      ∗ bigSep S (fun d => (Rd G).payload (kc c i) 0 d) ∗ cred (tallyAt (kc c i) () ((1024 - m) * NROW)) ∗ owes (c : Thread nD τ) 0 W)
  else iprop(∃ W : Waits sig Unit, atPos ER (kc c i) 1 ∅ 0 ∗ bigSep (Finset.range 1024) (fun d => (Rd G).payload (kc c i) 0 d) ∗ owes (c : Thread nD τ) 0 W)

theorem step_drain {α : Type} {Q : α → sProp 𝕄} {k : PUnit → Prog (TpuEff nD τ sig (Elt F) Λ₀ .tc) α} (κ : ℕ) (c : Dev nD) (i : Fin 11)
    (hdut : (Rd G).duties (kc c i) 0 = Finset.range 1024) (hamt : ∀ d, (Rd G).amount (kc c i) 0 d = NROW)
    {sp sp' : Space} {s s' : Shape} {e e' : EltTy} {κ' : Kind} (q : DmaSem sig) (hq : q = own i)
    (src : Memref sig (c : Thread nD τ).2.kind sp' s' e') (dst : Memref sig κ' sp s e) (hsrc : src.view.WordExact) (hdst : dst.view.WordExact)
    (hN : dst.view.dmaCredit = NROW) (m : ℕ) (hm : m < 1024) :
    iprop(cellInv ER (Rd G) κ (kc c i) ∗ drained G c i m)
      ⊢ iprop((drained G c i (m + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold drained
  rw [if_pos hm]
  by_cases hl : m + 1 < 1024
  · rw [if_pos hl]
    have hcr : (1024 - m) * NROW = (1024 - (m + 1)) * NROW + NROW := by
      rw [← Nat.succ_mul]; congr 1; omega
    have hc : (cred (tallyAt (kc c i) () ((1024 - m) * NROW)) : sProp 𝕄) ⊢ iprop(cred (tallyAt (kc c i) () ((1024 - (m + 1)) * NROW)) ∗ cred (tallyOn (kc c i) (Finsupp.single () NROW))) := by
      rw [hcr, ← tallyAt_add]; exact (cred_add _ _).1
    iintro ⟨HI, %S, %W, %hS, Hat, Hp, Hc, HO⟩ Hk
    ihave ⟨Hc, Hc1⟩ := hc $$ Hc
    iapply (Rounds.wp_wait 𝒱₀ ER (Rd G) (c : Thread nD τ) none (κ := κ)
      (wpE_waitDma2_eq 𝒱₀ (c : Thread nD τ) none Set.univ) (Set.mem_univ _) (cr := Finsupp.single () NROW) (O := 0) (W := W)
      (N := {(SemLoc.dma (own i), ())}) (R := 0) (m := m * NROW) (T := S) (by rw [Util.total_single, hN]) (image_single_subset _ () NROW)) $$ [HI Hc1 HO Hat]
    · isplitl [HI]; · iexact HI
      isplitl [Hc1]; · iexact Hc1
      isplitl [HO]; · iexact HO
      isplitr [Hat]
      · rw [MayOwe_zero]; iempintro
      iexact Hat
    iintro %S' ⟨%hS', HO, Hat, Hp'⟩
    iapply Hk
    iexists S'
    iexists (W ∪ {(SemLoc.dma (own i), ())})
    isplitr
    · ipureintro; rw [← hdut]; exact hS'.2.1
    isplitl [Hat]
    · rw [hN, ← Nat.succ_mul]; iexact Hat
    isplitl [Hp Hp']
    · have h : iprop(bigSep S (fun d => (Rd G).payload (kc c i) 0 d) ∗ bigSep (S' \ S) (fun d => (Rd G).payload (kc c i) 0 d)) ⊢ bigSep S' (fun d => (Rd G).payload (kc c i) 0 d) := by
        exact Entails.of_eq (bigSep_sdiff_split hS'.1).symm
      iapply h
      isplitl [Hp] <;> iassumption
    isplitl [Hc] <;> iassumption
  · rw [if_neg hl]
    have hm' : m = 1023 := by omega
    iintro ⟨HI, %S, %W, %hS, Hat, Hp, Hc, HO⟩ Hk
    iapply (Rounds.wp_wait_rest_token 𝒱₀ ER (Rd G) (c : Thread nD τ) none (κ := κ)
      (wpE_waitDma2_eq 𝒱₀ (c : Thread nD τ) none Set.univ) (Set.mem_univ _) () (O := 0) (W := W) (R := 0) (m := m * NROW) (T := S)
      (by rw [expect_rows G hdut hamt, hN, ← Nat.succ_mul, hm'])) $$ [HI Hc HO Hat]
    · isplitl [HI]; · iexact HI
      isplitl [Hc]
      · rw [hN, hm', show (1024 - 1023) * NROW = NROW from Nat.one_mul _]; iexact Hc
      isplitl [HO]; · iexact HO
      isplitr [Hat]
      · rw [MayWait_zero]; iempintro
      iexact Hat
    rw [hdut]
    iintro ⟨HO, Hat, -, Hp'⟩
    iapply Hk
    iexists (insert (SemLoc.dma (own i), ()) W)
    isplitl [Hat]; · iexact Hat
    isplitl [Hp Hp']
    · have h : iprop(bigSep S (fun d => (Rd G).payload (kc c i) 0 d) ∗ bigSep (Finset.range 1024 \ S) (fun d => (Rd G).payload (kc c i) 0 d)) ⊢ bigSep (Finset.range 1024) (fun d => (Rd G).payload (kc c i) 0 d) := by
        exact Entails.of_eq (bigSep_sdiff_split hS).symm
      iapply h
      isplitl [Hp] <;> iassumption
    iexact HO

end Cert.Route

end
-- ==== Proof.Body.lean ====
/-
The kernel's body on one device, part by part: the meeting, the four exchanges, the positions, the sendings and the
drains; then the whole body.
-/
module

public import proofs.«01_k».proof.Proof.Steps

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {D : Data F} (G : D.Good)

/-! ## What every device knows -/

/-- The schedules of all semaphores are in force, the barrier's rounds are open, and the levels of the waits. -/
def env (κ : GSem nD τ sig → ℕ) : sProp 𝕄 :=
  iprop((bigSep Finset.univ fun e : Dev nD => cellInv ER (Rd G) (κ (bar e)) (bar e))
    ∗ (bigSep Finset.univ fun ei : Dev nD × Fin 11 => cellInv ER (Rd G) (κ (kc ei.1 ei.2)) (kc ei.1 ei.2))
    ∗ (bigSep Finset.univ fun e : Dev nD => reached ER (bar e) 0) ∗ levAts L lv)

instance env_persistent (κ : GSem nD τ sig → ℕ) : BI.Persistent (env G κ) := by unfold env; infer_instance

theorem env_bar (κ : GSem nD τ sig → ℕ) (e : Dev nD) : env G κ ⊢ cellInv ER (Rd G) (κ (bar e)) (bar e) := by
  unfold env
  have h : (bigSep Finset.univ fun e : Dev nD => cellInv ER (Rd G) (κ (bar e)) (bar e)) ⊢ cellInv ER (Rd G) (κ (bar e)) (bar e) :=
    bigSep_elim (Finset.mem_univ e)
  iintro ⟨H, -, -, -⟩
  iapply h $$ H
theorem env_kc (κ : GSem nD τ sig → ℕ) (e : Dev nD) (i : Fin 11) : env G κ ⊢ cellInv ER (Rd G) (κ (kc e i)) (kc e i) := by
  unfold env
  have h : (bigSep Finset.univ fun ei : Dev nD × Fin 11 => cellInv ER (Rd G) (κ (kc ei.1 ei.2)) (kc ei.1 ei.2)) ⊢ cellInv ER (Rd G) (κ (kc e i)) (kc e i) :=
    bigSep_elim (Φ := fun ei : Dev nD × Fin 11 => cellInv ER (Rd G) (κ (kc ei.1 ei.2)) (kc ei.1 ei.2)) (Finset.mem_univ (e, i))
  iintro ⟨-, H, -, -⟩
  iapply h $$ H
theorem env_open (κ : GSem nD τ sig → ℕ) (e : Dev nD) : env G κ ⊢ reached ER (bar e) 0 := by
  unfold env
  have h : (bigSep Finset.univ fun e : Dev nD => (reached ER (bar e) 0 : sProp 𝕄)) ⊢ reached ER (bar e) 0 := bigSep_elim (Finset.mem_univ e)
  iintro ⟨-, -, H, -⟩
  iapply h $$ H
theorem env_lev (κ : GSem nD τ sig → ℕ) : env G κ ⊢ levAts L lv := by
  unfold env
  iintro ⟨-, -, -, H⟩
  iexact H

theorem lv_bar (c : Dev nD) : lv ((c : Thread nD τ), (.reg barS : SemLoc sig)) () ≤ 1 := Nat.le_refl 1
set_option maxRecDepth 20000 in
theorem may_bar (κ : GSem nD τ sig → ℕ) (c : Dev nD) {O : CellTallies nD τ sig Unit} (hO : Above 1 O) : env G κ ⊢ MayWait (c : Thread nD τ) (.reg barS) () O :=
  (env_lev G κ).trans (mayWait c (.reg barS) 1 (lv_bar c) hO)
set_option maxRecDepth 20000 in
theorem may_kc (κ : GSem nD τ sig → ℕ) (c : Dev nD) (i : Fin 11) (b : ℕ) (hb : lv (kc c i) () ≤ b) {O : CellTallies nD τ sig Unit} (hO : Above b O) :
    env G κ ⊢ MayWait (c : Thread nD τ) (.dma (own i)) () O :=
  (env_lev G κ).trans (mayWait c (.dma (own i)) b hb hO)

/-! ## The parts of the program, on the buffers it runs on -/

abbrev w0 : Memref sig .tc .vmem S8x128 .i32 := Memref.whole cc0_stg0_0
abbrev w1 : Memref sig .tc .vmem S8x128 .i32 := Memref.whole cc0_stg1_0
abbrev w2 : Memref sig .tc .vmem S8x128 .i32 := Memref.whole cc0_stg2_0
abbrev w3 : Memref sig .tc .smem S8x128 .i32 := Memref.whole cc0_stg3_0

abbrev P1 := k0_part1 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P2 := k0_part2 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P3 := k0_part3 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P4 := k0_part4 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P5 := k0_part5 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P6 := k0_part6 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P7 := k0_part7 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev P8 := k0_part8 (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev B1 := k0_t1_body (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev B2 := k0_t2_body (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7
abbrev B3 := k0_t3_body (F := F) xM (Memref.isWhole_whole _) w0 (Memref.isWhole_whole _) w1 (Memref.isWhole_whole _) w2 (Memref.isWhole_whole _) w3 (Memref.isWhole_whole _)
  oM (Memref.isWhole_whole _) cM (Memref.isWhole_whole _) sM (Memref.isWhole_whole _) vM (Memref.isWhole_whole _) cc0_scratch3 cc0_scratch4 cc0_scratch5 cc0_scratch6 cc0_scratch7

/-- The rest of a program run on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The meeting -/

set_option maxHeartbeats 4000000 in
/-- The first eight signals. -/
theorem part1 (κ : GSem nD τ sig → ℕ) (c : Dev nD) (O : CellTallies nD τ sig Unit) (W : Waits sig Unit)
    {α : Type} {Q : α → sProp 𝕄} {k : (Σ' (d0 : Dev nD) (v2 : BitVec 32), Sems sig S_) → Prog (TpuEff nD τ sig (Elt F) Λ₀ .tc) α} :
    iprop(env G κ ∗ owes (c : Thread nD τ) (owB c 0 + O) W ∗ toSignal D c 0)
      ⊢ iprop(((owes (c : Thread nD τ) (owB c 8 + O) W ∗ toSignal D c 8) -∗ wpc c (k ⟨c, me c, SemArray.scalar (sig.barrier 0 rfl)⟩) Q) -∗ wpc c (P1 >>= k) Q) := by
  unfold P1; rw [k0_part1_eq_skeleton]; unfold k0_part1_skel
  simp only [semSignalWord, semWaitWord, Prog.lift, Prog.bind_op, Prog.bind_ret, Prog.pure_eq_ret, Prog.bind_assoc, wp_deviceId]
  iintro ⟨#HE, HO, HS⟩ Hk
  iapply (step_meet G κ c ⟨0, by decide⟩ _ (cond1_iff c) (fun h => ⟨k0_dev1, k0_dev1_lt c h⟩) (fun h => Fin.ext k0_dev1_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨1, by decide⟩ _ (cond2_iff c) (fun h => ⟨k0_dev2, k0_dev2_lt c h⟩) (fun h => Fin.ext k0_dev2_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨2, by decide⟩ _ (cond3_iff c) (fun h => ⟨k0_dev3, k0_dev3_lt c h⟩) (fun h => Fin.ext k0_dev3_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨3, by decide⟩ _ (cond4_iff c) (fun h => ⟨k0_dev4, k0_dev4_lt c h⟩) (fun h => Fin.ext k0_dev4_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨4, by decide⟩ _ (cond5_iff c) (fun h => ⟨k0_dev5, k0_dev5_lt c h⟩) (fun h => Fin.ext k0_dev5_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨5, by decide⟩ _ (cond6_iff c) (fun h => ⟨k0_dev6, k0_dev6_lt c h⟩) (fun h => Fin.ext k0_dev6_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨6, by decide⟩ _ (cond7_iff c) (fun h => ⟨k0_dev7, k0_dev7_lt c h⟩) (fun h => Fin.ext k0_dev7_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨7, by decide⟩ _ (cond8_iff c) (fun h => ⟨k0_dev8, k0_dev8_lt c h⟩) (fun h => Fin.ext k0_dev8_eq) O W) $$ [HO HS]
  · isplitr; · iapply (env_bar G κ _) $$ HE
    isplitr; · iapply (env_open G κ _) $$ HE
    isplitl [HO]; · iexact HO
    iexact HS
  iintro ⟨HO, HS⟩
  simp only [Prog.bind_ret]
  iapply Hk
  isplitl [HO] <;> iassumption

/-- The first row of a counts table, and a device's own row of the gathered table. -/
abbrev rc : Rect S8x128 := Rect.unit (s := S8x128) ![0, 0] S1x128.size inb_S8x128_S1x128_0_0
abbrev ro (c : Dev nD) : Rect S16x128 := Rect.unit (s := S16x128) (k0_off1 c) S1x128.size (k0_off1_inb c)

theorem own_set (c : Dev nD) : (cM.access (ro c)).set = rowsV (fst c 0) (2 ^ 0) := by
  rw [show (cM.access (ro c)).set = (ro c).set from View.set_slice_whole cc0_scratch0 (ro c)]
  exact rows_set (fst c 0) (2 ^ 0) (k0_off1 c) (by rw [k0_off1_eq, rowsV_one]) S1x128.size (by decide) (k0_off1_inb c)

/-- Storing its counts at its own row, a device has that row of the gathered table. -/
theorem own_value (c : Dev nD) (f : S16x128.Idx → BitVec 32) (i : S16x128.Idx) (hi : i ∈ rowsV (fst c 0) (2 ^ 0)) :
    (cM.access (ro c)).write (Elt F) f (k0_pay1 (F := F) ((w0.access rc).read (Elt F) (D.cnt c))) Finset.univ i = D.gath i := by
  rw [← own_set c] at hi
  obtain ⟨j, rfl⟩ := View.exists_emb_of_mem_set _ hi
  rw [View.write_emb_of_mem _ _ (Finset.mem_univ j)]
  have e0 := ValueKit.view_emb_slice_whole_unit_val cc0_scratch0 (k0_off1 c) S1x128.size (k0_off1_inb c) j 0
  have e1 := ValueKit.view_emb_slice_whole_unit_val cc0_scratch0 (k0_off1 c) S1x128.size (k0_off1_inb c) j 1
  have hj : (j 0).val = 0 := Nat.lt_one_iff.mp (j 0).isLt
  have h0 : (((cM.access (ro c)).emb j) 0).val = c.val := by
    refine e0.trans ?_
    have ho : k0_off1 c 0 = c.val := by rw [k0_off1_eq]; rfl
    omega
  have h1 : (((cM.access (ro c)).emb j) 1).val = (j 1).val := by
    refine e1.trans ?_
    have ho : k0_off1 c 1 = 0 := by rw [k0_off1_eq]; rfl
    omega
  unfold k0_pay1
  rw [shapeCast_self, shapeCast_self]
  show D.cnt c _ = D.cnt _ _
  have hc : (⟨(((cM.access (ro c)).emb j) 0).val, (((cM.access (ro c)).emb j) 0).isLt⟩ : Dev nD) = c := Fin.ext h0
  refine (congrArg (fun d => D.cnt d _) hc.symm).trans (congrArg (D.cnt _) (funext fun a => Fin.ext ?_))
  match a with
  | ⟨0, _⟩ =>
    refine (ValueKit.view_emb_slice_whole_unit_val cc0_stg0_0 ![0, 0] S1x128.size inb_S8x128_S1x128_0_0 j 0).trans ?_
    show 0 + (j 0).val = 0; omega
  | ⟨1, _⟩ =>
    refine (ValueKit.view_emb_slice_whole_unit_val cc0_stg0_0 ![0, 0] S1x128.size inb_S8x128_S1x128_0_0 j 1).trans ?_
    refine Eq.trans ?_ h1.symm
    show 0 + (j 1).val = (j 1).val; omega

set_option maxHeartbeats 4000000 in
/-- The other eight signals, the wait for all fifteen, and the device's own row. -/
theorem part2 (κ : GSem nD τ sig → ℕ) (c : Dev nD) (O : CellTallies nD τ sig Unit) (hO : Above 1 O) (W : Waits sig Unit) (f : S16x128.Idx → BitVec 32)
    {α : Type} {Q : α → sProp 𝕄} {k : PUnit → Prog (TpuEff nD τ sig (Elt F) Λ₀ .tc) α} :
    iprop(env G κ ∗ owes (c : Thread nD τ) (owB c 8 + O) W ∗ toSignal D c 8 ∗ cred (tallyAt (bar c) () 15) ∗ atPos ER (bar c) 0 ∅ 0
        ∗ (((c : Thread nD τ).loc cc0_stg0_0) ↦{fullShare} (D.cnt c)) ∗ tab c (rowsV (fst c 0) (2 ^ 0)) f)
      ⊢ iprop((((∃ W', owes (c : Thread nD τ) O W') ∗ atPos ER (bar c) 1 ∅ 0 ∗ (bigSep ((Finset.range 16).erase c.val) fun d => giv D (dv d) c)
            ∗ (((c : Thread nD τ).loc cc0_stg0_0) ↦{fullShare} (D.cnt c)) ∗ tab c (rowsV (fst c 0) (2 ^ 0)) D.gath) -∗ wpc c (k ⟨⟩) Q)
          -∗ wpc c (P2 c (me c) (SemArray.scalar (sig.barrier 0 rfl)) >>= k) Q) := by
  unfold P2; rw [k0_part2_eq_skeleton]; unfold k0_part2_skel
  simp only [semSignalWord, semWaitWord, Prog.lift, Prog.bind_op, Prog.bind_ret, Prog.pure_eq_ret, Prog.bind_assoc, wp_deviceId]
  iintro ⟨#HE, HO, HS, Hc, Hat, Hn, Ht⟩ Hk
  iapply (step_meet G κ c ⟨8, by decide⟩ _ (cond9_iff c) (fun h => ⟨k0_dev9, k0_dev9_lt c h⟩) (fun h => Fin.ext k0_dev9_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨9, by decide⟩ _ (cond10_iff c) (fun h => ⟨k0_dev10, k0_dev10_lt c h⟩) (fun h => Fin.ext k0_dev10_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨10, by decide⟩ _ (cond11_iff c) (fun h => ⟨k0_dev11, k0_dev11_lt c h⟩) (fun h => Fin.ext k0_dev11_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨11, by decide⟩ _ (cond12_iff c) (fun h => ⟨k0_dev12, k0_dev12_lt c h⟩) (fun h => Fin.ext k0_dev12_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨12, by decide⟩ _ (cond13_iff c) (fun h => ⟨k0_dev13, k0_dev13_lt c h⟩) (fun h => Fin.ext k0_dev13_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨13, by decide⟩ _ (cond14_iff c) (fun h => ⟨k0_dev14, k0_dev14_lt c h⟩) (fun h => Fin.ext k0_dev14_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨14, by decide⟩ _ (cond15_iff c) (fun h => ⟨k0_dev15, k0_dev15_lt c h⟩) (fun h => Fin.ext k0_dev15_eq) O W) $$ [HO HS]
  · isplitr; · iapply (env_bar G κ _) $$ HE
    isplitr; · iapply (env_open G κ _) $$ HE
    isplitl [HO]; · iexact HO
    iexact HS
  iintro ⟨HO, HS⟩
  iapply (step_meet G κ c ⟨15, by decide⟩ _ (cond16_iff c) (fun h => ⟨k0_dev16, k0_dev16_lt c h⟩) (fun h => Fin.ext k0_dev16_eq) O W) $$ [HO HS]
  · isplitr; · iapply (env_bar G κ _) $$ HE
    isplitr; · iapply (env_open G κ _) $$ HE
    isplitl [HO]; · iexact HO
    iexact HS
  iintro ⟨HO, HS⟩
  simp only [Prog.bind_op, Prog.bind_ret]
  have hB : owB c (15 + 1) + O = O := by
    unfold owB
    rw [Finset.filter_false_of_mem (fun k _ h => absurd h.1 (by have : k.val < 16 := k.isLt; omega)), Finset.sum_empty, zero_add]
  have hB' : (owes (c : Thread nD τ) (owB c (15 + 1) + O) W : sProp 𝕄) ⊢ owes (c : Thread nD τ) O W := Entails.of_eq (by rw [hB])
  have hm : env G κ ⊢ MayWait (c : Thread nD τ) (.reg barS) () O :=
    may_bar G κ c hO
  iapply (step_met G (κ (bar c)) c O W) $$ [HO Hc Hat]
  · isplitr; · iapply (env_bar G κ _) $$ HE
    isplitl [Hc]; · iexact Hc
    isplitl [HO]; · iapply hB' $$ HO
    isplitr [Hat]
    · iapply hm $$ HE
    iexact Hat
  iintro ⟨HO, Hat, Hg⟩
  iapply (wp_load_rect 𝒱₀ (c : Thread nD τ) none Set.univ (m := w0) (r := rc) (Finset.subset_univ _)) $$ Hn; iintro Hn
  iapply (wp_load_rect 𝒱₀ (c : Thread nD τ) none Set.univ (m := cM) (r := ro c) (own_set c).subset) $$ Ht; iintro Ht
  iapply (wp_store 𝒱₀ (c : Thread nD τ) none Set.univ (m := cM) (r := ro c) (Mk := Finset.univ) (own_set c).subset) $$ Ht; iintro Ht
  iapply Hk
  isplitl [HO]; · iexists _; iexact HO
  isplitl [Hat]; · iexact Hat
  isplitl [Hg]; · iexact Hg
  isplitl [Hn]; · iexact Hn
  have h : tab c (rowsV (fst c 0) (2 ^ 0)) ((cM.access (ro c)).write (Elt F) f (k0_pay1 (F := F) ((w0.access rc).read (Elt F) (D.cnt c))) Finset.univ)
      ⊢ (tab c (rowsV (fst c 0) (2 ^ 0)) D.gath : sProp 𝕄) := Entails.of_eq (pointsTo_congr fun i hi => own_value c f i hi)
  iapply h $$ Ht

end Cert.Route

end
-- ==== Proof.Exch.lean ====
/-
The four exchanges on one device: each sends the rows a device has to its partner, then waits for the partner's rows to
have arrived and for its own to have left.
-/
module

public import proofs.«01_k».proof.Proof.Body

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {D : Data F} (G : D.Good)

/-! ## One exchange -/

/-- What a device owes, whatever it has waited for. -/
def owx (c : Dev nD) (O : CellTallies nD τ sig Unit) : sProp 𝕄 := iprop(∃ W, owes (c : Thread nD τ) O W)

/-- What exchange `j` starts from, besides the rows: the partner's rows to write, and this device's part in the two
    semaphores; what is held once the rows are sent, once the partner's have come, and at the end. -/
def exA (c : Dev nD) (j : Fin 4) : sProp 𝕄 :=
  iprop((∃ f, tab (prt c j) (rowsV (fst c j.val) (2 ^ j.val)) f) ∗ reached ER (kc (prt c j) (iR j)) 0 ∗ dutyTok ER (kc c (iS j)) 0 0 ∗ reached ER (kc c (iS j)) 0
    ∗ dutyTok ER (kc (prt c j) (iR j)) 0 0 ∗ atPos ER (kc c (iS j)) 0 ∅ 0 ∗ atPos ER (kc c (iR j)) 0 ∅ 0 ∗ cred (tallyAt (kc c (iR j)) () (NB j.val)))
def exB (c : Dev nD) (j : Fin 4) : sProp 𝕄 :=
  iprop(atPos ER (kc c (iS j)) 0 ∅ 0 ∗ atPos ER (kc c (iR j)) 0 ∅ 0 ∗ cred (tallyAt (kc c (iR j)) () (NB j.val)) ∗ cred (tallyAt (kc c (iS j)) () (NB j.val)))
def exC (D : Data F) (c : Dev nD) (j : Fin 4) : sProp 𝕄 :=
  iprop(atPos ER (kc c (iS j)) 0 ∅ 0 ∗ atPos ER (kc c (iR j)) 1 ∅ 0 ∗ cred (tallyAt (kc c (iS j)) () (NB j.val))
    ∗ tab c (rowsV (fst (prt c j) j.val) (2 ^ j.val)) D.gath)
def exD (c : Dev nD) (j : Fin 4) : sProp 𝕄 := iprop(atPos ER (kc c (iS j)) 1 ∅ 0 ∗ atPos ER (kc c (iR j)) 1 ∅ 0)

theorem owT_next (c : Dev nD) (j : Fin 4) : owT c j.val = owT c (j.val + 1) + tallyAt (kc (prt c j) (iR j)) () (NB j.val) := by
  unfold owT
  have h : (Finset.univ.filter fun j' : Fin 4 => j.val ≤ j'.val) = insert j (Finset.univ.filter fun j' : Fin 4 => j.val + 1 ≤ j'.val) := by
    ext j'
    rw [Finset.mem_insert, Finset.mem_filter, Finset.mem_filter, Fin.ext_iff]
    constructor
    · rintro ⟨h1, h2⟩
      by_cases e : j'.val = j.val
      · exact Or.inl e
      · exact Or.inr ⟨h1, by omega⟩
    · rintro (h | h)
      · exact ⟨Finset.mem_univ _, by omega⟩
      · exact ⟨h.1, by omega⟩
  rw [h, Finset.sum_insert (fun h' => by have := (Finset.mem_filter.mp h').2; omega), add_comm]
theorem owT_end (c : Dev nD) : owT c 4 = 0 := by
  unfold owT
  rw [Finset.filter_false_of_mem (fun k _ h => by have := k.isLt; omega), Finset.sum_empty]

theorem exch_send (κ : GSem nD τ sig → ℕ) (c : Dev nD) (j : Fin 4) (r : Rect S16x128) (hr : ∀ a, r.stride a = 1)
    (hset : r.set = rowsV (fst c j.val) (2 ^ j.val))
    (hN : (cM.slice r hr).view.dmaCredit = NB j.val) (n : Dev nD) (hn : n = prt c j) (qS qR : DmaSem sig) (hqS : qS = own (iS j)) (hqR : qR = own (iR j))
    {hsc : (cM.slice r hr).view.ref.isScScratch = false} {hsrc hdst : (cM.slice r hr).view.WordExact}
    {hsem : DmaTarget.Typed (nD := nD) (τ := τ) .vmem (.dma qR) (.remote (Dev.tc n) (cM.slice r hr) (.dma qS) hsc)}
    (O : CellTallies nD τ sig Unit)
    {α : Type} {Q : α → sProp 𝕄} {k : PUnit → Prog (TpuEff nD τ sig (Elt F) Λ₀ .tc) α} :
    iprop(env G κ ∗ exA c j ∗ tab c (rowsV (fst c j.val) (2 ^ j.val)) D.gath ∗ owx c (owT c j.val + O))
      ⊢ iprop(((exB c j ∗ owx c (owT c (j.val + 1) + O)) -∗ wpc c (k ⟨⟩) Q)
          -∗ wpc c (.op (.enqueueDma (cM.slice r hr) (.remote (Dev.tc n) (cM.slice r hr) (.dma qS) hsc) (.dma qR) hsrc hdst hsem) k) Q) := by
  unfold exA exB owx
  have e : owT c j.val + O = (owT c (j.val + 1) + O) + tallyAt (kc (prt c j) (iR j)) () (NB j.val) := by
    rw [owT_next]; abel
  rw [e]
  iintro ⟨#HE, ⟨⟨%f, Hd⟩, Hr', Ht, Hr, Ht', HaS, HaR, Hc⟩, Hs, ⟨%W, HO⟩⟩ Hk
  iapply (step_exch G (κ (kc c (iS j))) (κ (kc (prt c j) (iR j))) c j r hr hset hN n hn qS qR hqS hqR hsc hsrc hdst hsem f _ W) $$ [Hs Hd HO Ht Hr Ht' Hr']
  · isplitr; · iapply (env_kc G κ c (iS j)) $$ HE
    isplitr; · iapply (env_kc G κ (prt c j) (iR j)) $$ HE
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨HcS, HO⟩
  iapply Hk
  isplitr [HO]
  · isplitl [HaS]; · iexact HaS
    isplitl [HaR]; · iexact HaR
    isplitl [Hc] <;> iassumption
  iexists W
  iexact HO

theorem exch_recv (κ : GSem nD τ sig → ℕ) (c : Dev nD) (j : Fin 4) {sp sp' : Space} {s s' : Shape} {e e' : EltTy} {κ' : Kind} (q : DmaSem sig) (hq : q = own (iR j))
    {src : Memref sig (c : Thread nD τ).2.kind sp' s' e'} {dst : Memref sig κ' sp s e} {hsrc : src.view.WordExact} {hdst : dst.view.WordExact}
    (hN : dst.view.dmaCredit = NB j.val) (O : CellTallies nD τ sig Unit) (hO : Above 9 O)
    {α : Type} {Q : α → sProp 𝕄} {k : PUnit → Prog (TpuEff nD τ sig (Elt F) Λ₀ .tc) α} :
    iprop(env G κ ∗ exB c j ∗ owx c (owT c (j.val + 1) + O))
      ⊢ iprop(((exC D c j ∗ owx c (owT c (j.val + 1) + O)) -∗ wpc c (k ⟨⟩) Q) -∗ wpc c (.op (.waitDma2 q src dst hsrc hdst) k) Q) := by
  unfold exB exC owx
  iintro ⟨#HE, ⟨HaS, HaR, Hc, HcS⟩, ⟨%W, HO⟩⟩ Hk
  iapply (step_wait G (κ (kc c (iR j))) c (iR j) (NB j.val) (duties_R G c j) (amount_R G c j 0 0) q hq src dst hsrc hdst hN _ W) $$ [Hc HO HaR]
  · isplitr; · iapply (env_kc G κ c (iR j)) $$ HE
    isplitl [Hc]; · iexact Hc
    isplitl [HO]; · iexact HO
    isplitr
    · iapply (may_kc G κ c (iR j) (1 + (j.val + 1)) (by rw [lv_R]; omega) ((above_owT c (j.val + 1)).add (hO.mono (by omega)))) $$ HE
    iexact HaR
  rw [payload_R]
  iintro ⟨HO, HaR, Hp⟩
  iapply Hk
  isplitr [HO]
  · isplitl [HaS]; · iexact HaS
    isplitl [HaR]; · iexact HaR
    isplitl [HcS] <;> iassumption
  iexists _
  iexact HO

theorem lv_S (c : Dev nD) (j : Fin 4) : lv (kc c (iS j)) () ≤ 0 := by
  show (if 4 + j.val < 8 then 0 else _) ≤ 0
  rw [if_pos (by omega)]

theorem exch_sent (κ : GSem nD τ sig → ℕ) (c : Dev nD) (j : Fin 4) {sp sp' : Space} {s s' : Shape} {e e' : EltTy} {κ' : Kind} (q : DmaSem sig) (hq : q = own (iS j))
    {src : Memref sig (c : Thread nD τ).2.kind sp' s' e'} {dst : Memref sig κ' sp s e} {hsrc : src.view.WordExact} {hdst : dst.view.WordExact}
    (hN : dst.view.dmaCredit = NB j.val) (O : CellTallies nD τ sig Unit) (hO : Above 9 O)
    {α : Type} {Q : α → sProp 𝕄} {k : PUnit → Prog (TpuEff nD τ sig (Elt F) Λ₀ .tc) α} :
    iprop(env G κ ∗ exC D c j ∗ owx c (owT c (j.val + 1) + O))
      ⊢ iprop(((exD c j ∗ tab c (rowsV (fst c (j.val + 1)) (2 ^ (j.val + 1))) D.gath ∗ owx c (owT c (j.val + 1) + O)) -∗ wpc c (k ⟨⟩) Q)
          -∗ wpc c (.op (.waitDma2 q src dst hsrc hdst) k) Q) := by
  unfold exC exD owx
  iintro ⟨#HE, ⟨HaS, HaR, Hc, Hp⟩, ⟨%W, HO⟩⟩ Hk
  iapply (step_wait G (κ (kc c (iS j))) c (iS j) (NB j.val) (duties_S G c j) (amount_S G c j 0 0) q hq src dst hsrc hdst hN _ W) $$ [Hc HO HaS]
  · isplitr; · iapply (env_kc G κ c (iS j)) $$ HE
    isplitl [Hc]; · iexact Hc
    isplitl [HO]; · iexact HO
    isplitr
    · iapply (may_kc G κ c (iS j) 0 (lv_S c j) (((above_owT c (j.val + 1)).mono (by omega)).add (hO.mono (by omega)))) $$ HE
    iexact HaS
  rw [payload_S]
  iintro ⟨HO, HaS, Hs⟩
  iapply Hk
  isplitl [HaS HaR]
  · isplitl [HaS] <;> iassumption
  isplitl [Hs Hp]
  · have h : iprop(tab c (rowsV (fst c j.val) (2 ^ j.val)) D.gath ∗ tab c (rowsV (fst (prt c j) j.val) (2 ^ j.val)) D.gath)
        ⊢ (tab c (rowsV (fst c (j.val + 1)) (2 ^ (j.val + 1))) D.gath : sProp 𝕄) := by
      rw [rowsV_next]; exact (pointsTo_union (rowsV_apart c j)).2
    iapply h
    isplitl [Hs] <;> iassumption
  iexists _
  iexact HO

/-! ## The parts of the program that exchange -/

set_option maxHeartbeats 4000000 in
/-- Exchange 0. -/
theorem part3 (κ : GSem nD τ sig → ℕ) (c : Dev nD) (v : BitVec 32) (O : CellTallies nD τ sig Unit) (hO : Above 9 O)
    {α : Type} {Q : α → sProp 𝕄} {k : BitVec 32 → Prog (TpuEff nD τ sig (Elt F) Λ₀ .tc) α} :
    iprop(env G κ ∗ exA c 0 ∗ tab c (rowsV (fst c 0) (2 ^ 0)) D.gath ∗ owx c (owT c 0 + O))
      ⊢ iprop((∀ v', (exD c 0 ∗ tab c (rowsV (fst c 1) (2 ^ 1)) D.gath ∗ owx c (owT c 1 + O)) -∗ wpc c (k v') Q) -∗ wpc c (P3 c v >>= k) Q) := by
  unfold P3; rw [k0_part3_eq_skeleton]; unfold k0_part3_skel
  simp only [Prog.lift, Prog.bind_op, Prog.bind_ret, Prog.pure_eq_ret, Prog.bind_assoc]
  iintro ⟨#HE, HA, HT, HO⟩ Hk
  iapply (exch_send G κ c 0 (Rect.unit (s := S16x128) (k0_off2 c) S1x128.size (k0_off2_inb c)) (fun _ => rfl)
    (rows_set _ _ _ (off2_eq c) _ rfl _) rfl _ (dev17_eq c) _ _ rfl rfl O) $$ [HA HT HO]
  · isplitr; · iexact HE
    isplitl [HA]; · iexact HA
    isplitl [HT]; · iexact HT
    iexact HO
  iintro ⟨HB, HO⟩
  iapply (exch_recv G κ c 0 _ rfl rfl O hO) $$ [HB HO]
  · isplitr; · iexact HE
    isplitl [HB]; · iexact HB
    iexact HO
  iintro ⟨HC, HO⟩
  iapply (exch_sent G κ c 0 _ rfl rfl O hO) $$ [HC HO]
  · isplitr; · iexact HE
    isplitl [HC]; · iexact HC
    iexact HO
  iintro ⟨HD0, HT, HO⟩
  iapply Hk
  isplitl [HD0]; · iexact HD0
  isplitl [HT]; · iexact HT
  iexact HO

set_option maxHeartbeats 4000000 in
/-- Exchange 1, and exchange 2 up to the arrival. -/
theorem part4 (κ : GSem nD τ sig → ℕ) (c : Dev nD) (v v' : BitVec 32) (O : CellTallies nD τ sig Unit) (hO : Above 9 O)
    {α : Type} {Q : α → sProp 𝕄} {k : PUnit → Prog (TpuEff nD τ sig (Elt F) Λ₀ .tc) α} :
    iprop(env G κ ∗ exA c 1 ∗ exA c 2 ∗ tab c (rowsV (fst c 1) (2 ^ 1)) D.gath ∗ owx c (owT c 1 + O))
      ⊢ iprop(((exD c 1 ∗ exC D c 2 ∗ owx c (owT c 3 + O)) -∗ wpc c (k ⟨⟩) Q) -∗ wpc c (P4 c v v' >>= k) Q) := by
  unfold P4; rw [k0_part4_eq_skeleton]; unfold k0_part4_skel
  simp only [Prog.lift, Prog.bind_op, Prog.bind_ret, Prog.pure_eq_ret, Prog.bind_assoc]
  iintro ⟨#HE, HA, HA2, HT, HO⟩ Hk
  iapply (exch_send G κ c 1 (Rect.unit (s := S16x128) (k0_off4 c) S2x128.size (k0_off4_inb c)) (fun _ => rfl)
    (rows_set _ _ _ (off4_eq c) _ rfl _) rfl _ (dev18_eq c) _ _ rfl rfl O) $$ [HA HT HO]
  · isplitr; · iexact HE
    isplitl [HA]; · iexact HA
    isplitl [HT]; · iexact HT
    iexact HO
  iintro ⟨HB, HO⟩
  iapply (exch_recv G κ c 1 _ rfl rfl O hO) $$ [HB HO]
  · isplitr; · iexact HE
    isplitl [HB]; · iexact HB
    iexact HO
  iintro ⟨HC, HO⟩
  iapply (exch_sent G κ c 1 _ rfl rfl O hO) $$ [HC HO]
  · isplitr; · iexact HE
    isplitl [HC]; · iexact HC
    iexact HO
  iintro ⟨HD1, HT, HO⟩
  iapply (exch_send G κ c 2 (Rect.unit (s := S16x128) (k0_off6 c) S4x128.size (k0_off6_inb c)) (fun _ => rfl)
    (rows_set _ _ _ (off6_eq c) _ rfl _) rfl _ (dev19_eq c) _ _ rfl rfl O) $$ [HA2 HT HO]
  · isplitr; · iexact HE
    isplitl [HA2]; · iexact HA2
    isplitl [HT]; · iexact HT
    iexact HO
  iintro ⟨HB, HO⟩
  iapply (exch_recv G κ c 2 _ rfl rfl O hO) $$ [HB HO]
  · isplitr; · iexact HE
    isplitl [HB]; · iexact HB
    iexact HO
  iintro ⟨HC, HO⟩
  iapply Hk
  isplitl [HD1]; · iexact HD1
  isplitl [HC]; · iexact HC
  iexact HO

set_option maxHeartbeats 4000000 in
/-- The end of exchange 2, exchange 3, and the read of the whole table. -/
theorem part5 (κ : GSem nD τ sig → ℕ) (c : Dev nD) (v : BitVec 32) (O : CellTallies nD τ sig Unit) (hO : Above 9 O)
    {α : Type} {Q : α → sProp 𝕄} {k : (Σ' (v142 : Vec F S16x128 .i32) (v145 : IVec S16x128 1), IVec S16x128 32) → Prog (TpuEff nD τ sig (Elt F) Λ₀ .tc) α} :
    iprop(env G κ ∗ exC D c 2 ∗ exA c 3 ∗ owx c (owT c 3 + O))
      ⊢ iprop(((exD c 2 ∗ exD c 3 ∗ tab c Finset.univ D.gath ∗ owx c O) -∗ wpc c (k ⟨D.gath, k0_pay2 v, k0_pay3⟩) Q) -∗ wpc c (P5 c v >>= k) Q) := by
  unfold P5; rw [k0_part5_eq_skeleton]; unfold k0_part5_skel
  simp only [Prog.lift, Prog.bind_op, Prog.bind_ret, Prog.pure_eq_ret, Prog.bind_assoc]
  iintro ⟨#HE, HC, HA, HO⟩ Hk
  iapply (exch_sent G κ c 2 _ rfl rfl O hO) $$ [HC HO]
  · isplitr; · iexact HE
    isplitl [HC]; · iexact HC
    iexact HO
  iintro ⟨HD2, HT, HO⟩
  iapply (exch_send G κ c 3 (Rect.unit (s := S16x128) (k0_off8 c) S8x128.size (k0_off8_inb c)) (fun _ => rfl)
    (rows_set _ _ _ (off8_eq c) _ rfl _) rfl _ (dev20_eq c) _ _ rfl rfl O) $$ [HA HT HO]
  · isplitr; · iexact HE
    isplitl [HA]; · iexact HA
    isplitl [HT]; · iexact HT
    iexact HO
  iintro ⟨HB, HO⟩
  iapply (exch_recv G κ c 3 _ rfl rfl O hO) $$ [HB HO]
  · isplitr; · iexact HE
    isplitl [HB]; · iexact HB
    iexact HO
  iintro ⟨HC, HO⟩
  iapply (exch_sent G κ c 3 _ rfl rfl O hO) $$ [HC HO]
  · isplitr; · iexact HE
    isplitl [HC]; · iexact HC
    iexact HO
  iintro ⟨HD3, HT, HO⟩
  have hT : tab c (rowsV (fst c ((3 : Fin 4).val + 1)) (2 ^ ((3 : Fin 4).val + 1))) D.gath ⊢ (tab c Finset.univ D.gath : sProp 𝕄) :=
    Entails.of_eq (congrArg (fun I => tab c I D.gath) (rowsV_all c))
  have hO' : (owx c (owT c ((3 : Fin 4).val + 1) + O) : sProp 𝕄) ⊢ owx c O :=
    Entails.of_eq (congrArg (owx c) ((congrArg (· + O) (owT_end c)).trans (zero_add O)))
  ihave HT' := hT $$ HT
  iapply (wp_load 𝒱₀ (c : Thread nD τ) none Set.univ (m := cM) (Finset.subset_univ _)) $$ HT'; iintro HT'
  have e : cM.view.readAt (Elt F) (Rect.unit (s := S16x128) ![0, 0] S16x128.size inb_S16x128_S16x128_0_0).toLoadRect D.gath = D.gath :=
    Memref.readAt_unit_zero (Elt F) cc0_scratch0 (by decide) _ D.gath
  simp only [e]
  iapply Hk
  isplitl [HD2]; · iexact HD2
  isplitl [HD3]; · iexact HD3
  isplitl [HT']; · iexact HT'
  iapply hO' $$ HO

end Cert.Route

end
-- ==== Proof.Loops.lean ====
/-
The positions of a device's rows and the three loops: the rows are sent to their places, then the sends and the arrivals
are waited for.
-/
module

public import proofs.«01_k».proof.Proof.Exch

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {D : Data F} (G : D.Good)

/-! ## The positions -/

/-- The destinations and the ranks read. -/
theorem part6 (c : Dev nD) (v142 : Vec F S16x128 .i32) (v145 : IVec S16x128 1) (v146 : IVec S16x128 32)
    {α : Type} {Q : α → sProp 𝕄} {k : (Σ' (v148 : IVec S128 32) (v150 : IVec S8x128 32) (v184 : IVec S8x128 32), IVec S8x128 32) → Prog (TpuEff nD τ sig (Elt F) Λ₀ .tc) α} :
    iprop((((c : Thread nD τ).loc cc0_stg1_0) ↦{fullShare} (D.dest c)) ∗ (((c : Thread nD τ).loc cc0_stg2_0) ↦{fullShare} (D.rank c)))
      ⊢ iprop((((((c : Thread nD τ).loc cc0_stg1_0) ↦{fullShare} (D.dest c)) ∗ (((c : Thread nD τ).loc cc0_stg2_0) ↦{fullShare} (D.rank c)))
            -∗ wpc c (k ⟨k0_pay4 (F := F) v142 v145 v146, k0_pay5 (F := F) (D.dest c), k0_pay6 (F := F) v142 v145 v146 (D.dest c) (D.rank c), k0_pay7 (F := F) v142 v145 v146 (D.dest c)⟩) Q)
          -∗ wpc c (P6 v142 v145 v146 >>= k) Q) := by
  unfold P6; rw [k0_part6_eq_skeleton]; unfold k0_part6_skel
  simp only [Prog.lift, Prog.bind_op, Prog.bind_ret, Prog.pure_eq_ret, Prog.bind_assoc]
  iintro ⟨H1, H2⟩ Hk
  iapply (wp_load 𝒱₀ (c : Thread nD τ) none Set.univ (m := w1) (Finset.subset_univ _)) $$ H1; iintro H1
  have e1 : w1.view.readAt (Elt F) (Rect.unit (s := S8x128) ![0, 0] S8x128.size inb_S8x128_S8x128_0_0).toLoadRect (D.dest c) = D.dest c :=
    Memref.readAt_unit_zero (Elt F) cc0_stg1_0 (by decide) _ (D.dest c)
  simp only [e1]
  iapply (wp_load 𝒱₀ (c : Thread nD τ) none Set.univ (m := w2) (Finset.subset_univ _)) $$ H2; iintro H2
  have e2 : w2.view.readAt (Elt F) (Rect.unit (s := S8x128) ![0, 0] S8x128.size inb_S8x128_S8x128_0_0).toLoadRect (D.rank c) = D.rank c :=
    Memref.readAt_unit_zero (Elt F) cc0_stg2_0 (by decide) _ (D.rank c)
  simp only [e2]
  iapply Hk
  isplitl [H1] <;> iassumption

theorem part7 (c : Dev nD) (v148 : IVec S128 32) (v150 v184 v191 : IVec S8x128 32)
    {α : Type} {Q : α → sProp 𝕄} {k : (Σ' (v232 : IVec S8x128 32), IVec S8x128 32) → Prog (TpuEff nD τ sig (Elt F) Λ₀ .tc) α} :
    wpc c (k ⟨k0_pay8 v148 v150 v184 v191, k0_pay9 v148 v150⟩) Q ⊢ wpc c (P7 v148 v150 v184 v191 >>= k) Q := by
  unfold P7; rw [k0_part7_eq_skeleton]; unfold k0_part7_skel
  simp only [Prog.lift, Prog.bind_op, Prog.bind_ret, Prog.pure_eq_ret, Prog.bind_assoc]
  exact Entails.rfl

set_option maxHeartbeats 4000000 in
/-- The positions written and copied to scalar memory. -/
theorem part8 (κ : GSem nD τ sig → ℕ) (c : Dev nD) (v148 : IVec S128 32) (v150 v232 v239 : IVec S8x128 32) (hv : k0_pay10 v148 v150 v232 v239 = D.pvec c)
    (O : CellTallies nD τ sig Unit) (hO : Above 9 O) (f g : S8x128.Idx → BitVec 32)
    {α : Type} {Q : α → sProp 𝕄} {k : BitVec 32 → Prog (TpuEff nD τ sig (Elt F) Λ₀ .tc) α} :
    iprop(env G κ ∗ pvm c f ∗ psm c g ∗ dutyTok ER (kc c 10) 0 0 ∗ reached ER (kc c 10) 0 ∗ atPos ER (kc c 10) 0 ∅ 0 ∗ owx c O)
      ⊢ iprop(((pvm c (D.pvec c) ∗ psm c (D.pvec c) ∗ atPos ER (kc c 10) 1 ∅ 0 ∗ owx c O) -∗ wpc c (k 0#32) Q) -∗ wpc c (P8 v148 v150 v232 v239 >>= k) Q) := by
  unfold P8; rw [k0_part8_eq_skeleton]; unfold k0_part8_skel
  simp only [Prog.lift, Prog.bind_op, Prog.bind_ret, Prog.pure_eq_ret, Prog.bind_assoc]
  unfold owx
  iintro ⟨#HE, Hv, Hs, Ht, Hr, Hat, ⟨%W, HO⟩⟩ Hk
  iapply (wp_load 𝒱₀ (c : Thread nD τ) none Set.univ (m := vM) (Finset.subset_univ _)) $$ Hv; iintro Hv
  iapply (wp_store 𝒱₀ (c : Thread nD τ) none Set.univ (m := vM) (r := Rect.unit (s := S8x128) ![0, 0] S8x128.size inb_S8x128_S8x128_0_0) (Mk := Finset.univ) (Finset.subset_univ _)) $$ Hv; iintro Hv
  have hw : (((c : Thread nD τ).loc cc0_scratch2) ↦{fullShare} ((vM.access (Rect.unit (s := S8x128) ![0, 0] S8x128.size inb_S8x128_S8x128_0_0)).write (Elt F) f (k0_pay10 v148 v150 v232 v239) Finset.univ) : sProp 𝕄)
      ⊢ pvm c (D.pvec c) := Entails.of_eq (by
    have e : (vM.access (Rect.unit (s := S8x128) ![0, 0] S8x128.size inb_S8x128_S8x128_0_0)).write (Elt F) f (k0_pay10 v148 v150 v232 v239) Finset.univ = D.pvec c :=
      (Memref.write_access_unit_zero_univ (Elt F) cc0_scratch2 (by decide) _ f _).trans hv
    rw [e])
  ihave Hv := hw $$ Hv
  iapply (step_copy G (κ (kc c 10)) c _ rfl _ _ _ g) $$ [Hv Hs Ht Hr]
  · isplitr; · iapply (env_kc G κ c 10) $$ HE
    isplitl [Hv]; · iexact Hv
    isplitl [Hs]; · iexact Hs
    isplitl [Ht]; · iexact Ht
    iexact Hr
  iintro Hc
  iapply (step_wait G (κ (kc c 10)) c 10 NCP (duties_10 G c) (amount_10 G c 0 0) _ rfl _ _ _ _ rfl O W) $$ [Hc HO Hat]
  · isplitr; · iapply (env_kc G κ c 10) $$ HE
    isplitl [Hc]; · iexact Hc
    isplitl [HO]; · iexact HO
    isplitr
    · iapply (may_kc G κ c 10 0 (Nat.le_of_eq rfl) (hO.mono (by omega))) $$ HE
    iexact Hat
  rw [payload_10]
  iintro ⟨HO, Hat, Hv, Hs⟩
  iapply Hk
  isplitl [Hv]; · iexact Hv
  isplitl [Hs]; · iexact Hs
  isplitl [Hat]; · iexact Hat
  iexists _
  iexact HO

/-! ## The rows sent -/

/-- What sending row `k` takes. -/
def todo (c : Dev nD) (k : Fin 1024) : sProp 𝕄 :=
  iprop(xrow c (rowF k.val) (D.x c) ∗ (∃ f, orow (G.to (c, k)).1 (rowF (D.pos c k)) f) ∗ dutyTok ER (kc c 8) 0 k.val ∗ dutyTok ER (kc (G.to (c, k)).1 9) 0 (D.pos c k))
/-- What every trip of the sending loop knows. -/
def know (κ : GSem nD τ sig → ℕ) (c : Dev nD) : sProp 𝕄 :=
  iprop(env G κ ∗ reached ER (kc c 8) 0 ∗ bigSep Finset.univ fun e : Dev nD => reached ER (kc e 9) 0)
instance know_persistent (κ : GSem nD τ sig → ℕ) (c : Dev nD) : BI.Persistent (know G κ c) := by unfold know; infer_instance

/-- Before trip `i` of the sending loop. -/
def sending (κ : GSem nD τ sig → ℕ) (c : Dev nD) (i : ℕ) : sProp 𝕄 :=
  iprop(know G κ c ∗ (bigSep (Finset.univ.filter fun k : Fin 1024 => i ≤ k.val) fun k => todo G c k) ∗ owx c (owR G c i)
    ∗ cred (tallyAt (kc c 8) () (i * NROW)) ∗ (((c : Thread nD τ).loc cc0_stg3_0) ↦{fullShare} (D.dest c)) ∗ psm c (D.pvec c))

theorem from_next (i : Fin 1024) : (Finset.univ.filter fun k : Fin 1024 => i.val ≤ k.val) = insert i (Finset.univ.filter fun k : Fin 1024 => i.val + 1 ≤ k.val) := by
  ext k
  rw [Finset.mem_insert, Finset.mem_filter, Finset.mem_filter, Fin.ext_iff]
  constructor
  · rintro ⟨h1, h2⟩
    by_cases e : k.val = i.val
    · exact Or.inl e
    · exact Or.inr ⟨h1, by omega⟩
  · rintro (h | h)
    · exact ⟨Finset.mem_univ _, by omega⟩
    · exact ⟨h.1, by omega⟩
theorem notMem_next (i : Fin 1024) : i ∉ Finset.univ.filter fun k : Fin 1024 => i.val + 1 ≤ k.val :=
  fun h' => by have := (Finset.mem_filter.mp h').2; omega

theorem owR_next (c : Dev nD) (i : Fin 1024) : owR G c i.val = owR G c (i.val + 1) + tallyAt (kc (G.to (c, i)).1 9) () NROW := by
  unfold owR
  rw [from_next, Finset.sum_insert (notMem_next i), add_comm]
theorem owR_end (c : Dev nD) : owR G c 1024 = 0 := by
  unfold owR
  rw [Finset.filter_false_of_mem (fun k _ h => by have := k.isLt; omega), Finset.sum_empty]

/-- The word a trip reads of a table in scalar memory. -/
theorem word_dest (f : S8x128.Idx → BitVec 32) (k : Fin k0_t1_loop.trips) (x : (Rect.unit (s := S8x128) (k0_off10 k) S1x1.size (k0_off10_inb k)).shape.Idx) :
    (w3.access (Rect.unit (s := S8x128) (k0_off10 k) S1x1.size (k0_off10_inb k))).read (Elt F) f x = f (cell (rk k)) := by
  show f _ = f _
  refine congrArg f (funext fun a => Fin.ext ?_)
  refine (ValueKit.view_emb_slice_whole_unit_val cc0_stg3_0 (k0_off10 k) S1x1.size (k0_off10_inb k) x a).trans ?_
  have h0 : k0_off10 k 0 = k.val / 128 := by rw [off10_eq]; rfl
  have h1 : k0_off10 k 1 = k.val % 128 := by rw [off10_eq]; rfl
  match a with
  | ⟨0, _⟩ => have : (x 0).val < 1 := (x 0).isLt; show k0_off10 k 0 + (x 0).val = k.val / 128; omega
  | ⟨1, _⟩ => have : (x 1).val < 1 := (x 1).isLt; show k0_off10 k 1 + (x 1).val = k.val % 128; omega
theorem word_pos (f : S8x128.Idx → BitVec 32) (k : Fin k0_t1_loop.trips) (x : (Rect.unit (s := S8x128) (k0_off10 k) S1x1.size (k0_off10_inb k)).shape.Idx) :
    (sM.access (Rect.unit (s := S8x128) (k0_off10 k) S1x1.size (k0_off10_inb k))).read (Elt F) f x = f (cell (rk k)) := by
  show f _ = f _
  refine congrArg f (funext fun a => Fin.ext ?_)
  refine (ValueKit.view_emb_slice_whole_unit_val cc0_scratch1 (k0_off10 k) S1x1.size (k0_off10_inb k) x a).trans ?_
  have h0 : k0_off10 k 0 = k.val / 128 := by rw [off10_eq]; rfl
  have h1 : k0_off10 k 1 = k.val % 128 := by rw [off10_eq]; rfl
  match a with
  | ⟨0, _⟩ => have : (x 0).val < 1 := (x 0).isLt; show k0_off10 k 0 + (x 0).val = k.val / 128; omega
  | ⟨1, _⟩ => have : (x 1).val < 1 := (x 1).isLt; show k0_off10 k 1 + (x 1).val = k.val % 128; omega

/-- A row's place is a whole slab of the result. -/
theorem chk1_ok (v : BitVec 32) (h : v.toNat < 1024) : k0_chk1 v := by
  have inb : ∀ a, (k0_off11 v) a + S1x4x128.size a ≤ S1024x4x128.size a := by
    intro a
    rw [off11_eq]
    match a with
    | ⟨0, _⟩ => show v.toNat + 1 ≤ 1024; omega
    | ⟨1, _⟩ => show 0 + 4 ≤ 4; omega
    | ⟨2, _⟩ => show 0 + 128 ≤ 128; omega
  refine ⟨inb, fun hinb => ?_⟩
  have hk : v.toNat < k0_t1_loop.trips := by rw [trips1]; exact h
  have h1 := k0_off12_wordsbf16 ⟨v.toNat, hk⟩
  have key : ∀ (o o' : Fin 3 → ℕ) (e : o = o') (b : ∀ a, o a + S1x4x128.size a ≤ S1024x4x128.size a) (b' : ∀ a, o' a + S1x4x128.size a ≤ S1024x4x128.size a),
      (Rect.unit (s := S1024x4x128) o S1x4x128.size b).WholeWords (EltTy.packing .bf16) → (Rect.unit (s := S1024x4x128) o' S1x4x128.size b').WholeWords (EltTy.packing .bf16) := by
    intro o o' e b b' hw; subst e; exact hw
  exact key _ _ (by rw [k0_off12_eq, off11_eq]) _ _ h1

set_option maxHeartbeats 4000000 in
theorem trip1 (κ : GSem nD τ sig → ℕ) (c : Dev nD) (k : Fin k0_t1_loop.trips) (acc : Unit) :
    sending G κ c k.val ⊢ wp frame (wpE (defs₀ (F := F)) 𝒱₀ (c : Thread nD τ) none) Set.univ (B1 k acc) (fun _ => sending G κ c (k.val + 1)) := by
  unfold B1 k0_t1_body
  simp only [smemLoad, smemLoadElt, Prog.lift, Prog.bind_op, Prog.bind_ret, Prog.pure_eq_ret, Prog.bind_assoc]
  unfold sending owx
  have hk : (rk k).val = k.val := rfl
  have e1 : (bigSep (Finset.univ.filter fun k' : Fin 1024 => k.val ≤ k'.val) fun k' => todo G c k')
      = iprop(todo G c (rk k) ∗ bigSep (Finset.univ.filter fun k' : Fin 1024 => k.val + 1 ≤ k'.val) fun k' => todo G c k') := by
    rw [← hk, from_next (rk k)]; exact bigSep_put (notMem_next (rk k))
  have e2 : owR G c k.val = owR G c (k.val + 1) + tallyAt (kc (G.to (c, rk k)).1 9) () NROW := owR_next G c (rk k)
  rw [e1, e2]
  unfold todo
  iintro ⟨#HK, ⟨⟨Hx, ⟨%f, Ho⟩, Ht, Ht'⟩, Hrest⟩, ⟨%W, HO⟩, Hc, Hd, Hp⟩
  iapply (wp_load_rect 𝒱₀ (c : Thread nD τ) none Set.univ (m := w3) (r := Rect.unit (s := S8x128) (k0_off10 k) S1x1.size (k0_off10_inb k)) (Finset.subset_univ _)) $$ Hd; iintro Hd
  rw [word_dest]
  have hdst : k0_chk2 (D.dest c (cell (rk k))) := by
    show k0_dev21 _ < nD
    rw [dev21_eq]; exact G.dst_lt c (rk k)
  simp only [wp_assume_of _ _ _ _ (d := k0_chk2.dec _) hdst]
  iapply (wp_load_rect 𝒱₀ (c : Thread nD τ) none Set.univ (m := sM) (r := Rect.unit (s := S8x128) (k0_off10 k) S1x1.size (k0_off10_inb k)) (Finset.subset_univ _)) $$ Hp; iintro Hp
  rw [word_pos]
  have hpos : k0_chk1 (D.pvec c (cell (rk k))) := chk1_ok _ (G.pos_lt c (rk k))
  simp only [wp_assume_of _ _ _ _ (d := k0_chk1.dec _) hpos]
  unfold know
  icases HK with ⟨#HE, #Hr8, #Hr9⟩
  have h9 : (bigSep Finset.univ fun e : Dev nD => reached ER (kc e 9) 0 : sProp 𝕄) ⊢ reached ER (kc (G.to (c, rk k)).1 9) 0 := bigSep_elim (Finset.mem_univ _)
  iapply (step_row G (κ (kc c 8)) (κ (kc (G.to (c, rk k)).1 9)) c (rk k) _ _ (k0_off12_eq k) (off11_eq _) _ _ _
    (Fin.ext (dev21_eq _)) _ _ rfl rfl _ _ _ _ f _ W) $$ [Hx Ho HO Ht Ht']
  · isplitr; · iapply (env_kc G κ c 8) $$ HE
    isplitr; · iapply (env_kc G κ _ 9) $$ HE
    isplitl [Hx]; · iexact Hx
    isplitl [Ho]; · iexact Ho
    isplitl [HO]; · iexact HO
    isplitl [Ht]; · iexact Ht
    isplitr; · iexact Hr8
    isplitl [Ht']; · iexact Ht'
    iapply h9 $$ Hr9
  iintro ⟨Hc1, HO⟩
  rw [wp_ret]
  imodintro
  isplitr
  · isplitr; · iexact HE
    isplitr <;> iassumption
  isplitl [Hrest]; · iexact Hrest
  isplitl [HO]; · iexists W; iexact HO
  isplitl [Hc Hc1]
  · have hc : iprop(cred (tallyAt (kc c 8) () (k.val * NROW)) ∗ cred (tallyAt (kc c 8) () NROW)) ⊢ (cred (tallyAt (kc c 8) () ((k.val + 1) * NROW)) : sProp 𝕄) := by
      rw [Nat.succ_mul, ← tallyAt_add]; exact (cred_add _ _).2
    iapply hc
    isplitl [Hc] <;> iassumption
  isplitl [Hd] <;> iassumption

/-- The sending loop. -/
theorem loop1 (κ : GSem nD τ sig → ℕ) (c : Dev nD) {α : Type} {Q : α → sProp 𝕄} {k : Unit → Prog (TpuEff nD τ sig (Elt F) Λ₀ .tc) α} :
    sending G κ c 0 ⊢ iprop((sending G κ c 1024 -∗ wpc c (k ⟨⟩) Q) -∗ wpc c (Scf.Loop.for k0_t1_loop k0_t1_ok ⟨⟩ B1 >>= k) Q) := by
  have h := Scf.wp_for_bind frame (wpE (defs₀ (F := F)) 𝒱₀ (c : Thread nD τ) none) Set.univ k0_t1_loop.lb k0_t1_loop.ub k0_t1_loop.st k0_t1_ok (⟨⟩ : Unit) B1
    (fun i _ => sending G κ c i) (fun i acc => trip1 G κ c i acc) (kk := k) (Q := Q)
  have ht : Scf.trips k0_t1_loop.lb k0_t1_loop.ub k0_t1_loop.st = 1024 := trips1
  rw [ht] at h
  iintro HI Hk
  iapply h $$ HI
  iintro %acc HI
  iapply Hk $$ HI

/-! ## The waits -/

theorem trip2 (κ : GSem nD τ sig → ℕ) (c : Dev nD) (k : Fin k0_t2_loop.trips) (acc : Unit) :
    iprop(env G κ ∗ drained G c 8 k.val) ⊢ wp frame (wpE (defs₀ (F := F)) 𝒱₀ (c : Thread nD τ) none) Set.univ (B2 k acc) (fun _ => iprop(env G κ ∗ drained G c 8 (k.val + 1))) := by
  unfold B2 k0_t2_body
  simp only [Prog.lift, Prog.bind_op, Prog.bind_ret, Prog.pure_eq_ret, Prog.bind_assoc]
  iintro ⟨#HE, Hd⟩
  iapply (step_drain G (κ (kc c 8)) c 8 (duties_8 G c) (fun d => amount_8 G c 0 d) _ rfl _ _ _ _ rfl k.val (trips2 ▸ k.isLt)) $$ [Hd]
  · isplitr; · iapply (env_kc G κ c 8) $$ HE
    iexact Hd
  iintro Hd
  rw [wp_ret]
  imodintro
  isplitr <;> iassumption
theorem loop2 (κ : GSem nD τ sig → ℕ) (c : Dev nD) {α : Type} {Q : α → sProp 𝕄} {k : Unit → Prog (TpuEff nD τ sig (Elt F) Λ₀ .tc) α} :
    iprop(env G κ ∗ drained G c 8 0) ⊢ iprop((drained G c 8 1024 -∗ wpc c (k ⟨⟩) Q) -∗ wpc c (Scf.Loop.for k0_t2_loop k0_t2_ok ⟨⟩ B2 >>= k) Q) := by
  have h := Scf.wp_for_bind frame (wpE (defs₀ (F := F)) 𝒱₀ (c : Thread nD τ) none) Set.univ k0_t2_loop.lb k0_t2_loop.ub k0_t2_loop.st k0_t2_ok (⟨⟩ : Unit) B2
    (fun i _ => iprop(env G κ ∗ drained G c 8 i)) (fun i acc => trip2 G κ c i acc) (kk := k) (Q := Q)
  have ht : Scf.trips k0_t2_loop.lb k0_t2_loop.ub k0_t2_loop.st = 1024 := trips2
  rw [ht] at h
  iintro HI Hk
  iapply h $$ HI
  iintro %acc ⟨-, HI⟩
  iapply Hk $$ HI

theorem trip3 (κ : GSem nD τ sig → ℕ) (c : Dev nD) (k : Fin k0_t3_loop.trips) (acc : Unit) :
    iprop(env G κ ∗ drained G c 9 k.val) ⊢ wp frame (wpE (defs₀ (F := F)) 𝒱₀ (c : Thread nD τ) none) Set.univ (B3 k acc) (fun _ => iprop(env G κ ∗ drained G c 9 (k.val + 1))) := by
  unfold B3 k0_t3_body
  simp only [Prog.lift, Prog.bind_op, Prog.bind_ret, Prog.pure_eq_ret, Prog.bind_assoc]
  iintro ⟨#HE, Hd⟩
  iapply (step_drain G (κ (kc c 9)) c 9 (duties_9 G c) (fun d => amount_9 G c 0 d) _ rfl _ _ _ _ rfl k.val (trips3 ▸ k.isLt)) $$ [Hd]
  · isplitr; · iapply (env_kc G κ c 9) $$ HE
    iexact Hd
  iintro Hd
  rw [wp_ret]
  imodintro
  isplitr <;> iassumption
theorem loop3 (κ : GSem nD τ sig → ℕ) (c : Dev nD) {α : Type} {Q : α → sProp 𝕄} {k : Unit → Prog (TpuEff nD τ sig (Elt F) Λ₀ .tc) α} :
    iprop(env G κ ∗ drained G c 9 0) ⊢ iprop((drained G c 9 1024 -∗ wpc c (k ⟨⟩) Q) -∗ wpc c (Scf.Loop.for k0_t3_loop k0_t3_ok ⟨⟩ B3 >>= k) Q) := by
  have h := Scf.wp_for_bind frame (wpE (defs₀ (F := F)) 𝒱₀ (c : Thread nD τ) none) Set.univ k0_t3_loop.lb k0_t3_loop.ub k0_t3_loop.st k0_t3_ok (⟨⟩ : Unit) B3
    (fun i _ => iprop(env G κ ∗ drained G c 9 i)) (fun i acc => trip3 G κ c i acc) (kk := k) (Q := Q)
  have ht : Scf.trips k0_t3_loop.lb k0_t3_loop.ub k0_t3_loop.st = 1024 := trips3
  rw [ht] at h
  iintro HI Hk
  iapply h $$ HI
  iintro %acc ⟨-, HI⟩
  iapply Hk $$ HI

end Cert.Route

end
-- ==== Proof.Whole.lean ====
/-
The whole program on one device, from what it is given at the start to what it leaves.
-/
module

public import proofs.«01_k».proof.Proof.Loops
public import Idealize.ShloMosaic.Lib.Rounds.Family

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {D : Data F} (G : D.Good)

/-! ## Families written out -/

theorem four (Φ : Fin 4 → sProp 𝕄) : bigSep Finset.univ Φ = iprop(Φ 0 ∗ Φ 1 ∗ Φ 2 ∗ Φ 3) := by
  have h : (Finset.univ : Finset (Fin 4)) = insert 0 (insert 1 (insert 2 {3})) := by decide
  rw [h, bigSep_put (by decide), bigSep_put (by decide), bigSep_put (by decide), bigSep_singleton]
theorem eleven (Φ : Fin 11 → sProp 𝕄) :
    bigSep Finset.univ Φ = iprop(Φ (iS 0) ∗ Φ (iS 1) ∗ Φ (iS 2) ∗ Φ (iS 3) ∗ Φ (iR 0) ∗ Φ (iR 1) ∗ Φ (iR 2) ∗ Φ (iR 3) ∗ Φ 8 ∗ Φ 9 ∗ Φ 10) := by
  have h : (Finset.univ : Finset (Fin 11)) = insert (iS 0) (insert (iS 1) (insert (iS 2) (insert (iS 3) (insert (iR 0) (insert (iR 1) (insert (iR 2) (insert (iR 3) (insert 8 (insert 9 {10}))))))))) := by decide
  rw [h, bigSep_put (by decide), bigSep_put (by decide), bigSep_put (by decide), bigSep_put (by decide), bigSep_put (by decide), bigSep_put (by decide),
    bigSep_put (by decide), bigSep_put (by decide), bigSep_put (by decide), bigSep_put (by decide), bigSep_singleton]
theorem range_rows (Φ : ℕ → sProp 𝕄) : bigSep (Finset.range 1024) Φ = bigSep Finset.univ fun k : Fin 1024 => Φ k.val := by
  have h : Finset.range 1024 = (Finset.univ : Finset (Fin 1024)).map ⟨Fin.val, Fin.val_injective⟩ := by
    ext d
    rw [Finset.mem_range, Finset.mem_map]
    constructor
    · intro hd; exact ⟨⟨d, hd⟩, Finset.mem_univ _, rfl⟩
    · rintro ⟨e, he, rfl⟩
      exact e.isLt
  rw [h, bigSep_map]
  rfl

theorem drained_start (c : Dev nD) (i : Fin 11) :
    iprop(atPos ER (kc c i) 0 ∅ 0 ∗ cred (tallyAt (kc c i) () (1024 * NROW)) ∗ owx c 0) ⊢ drained G c i 0 := by
  unfold drained owx
  rw [if_pos (by decide), Nat.zero_mul, Nat.sub_zero]
  iintro ⟨Hat, Hc, ⟨%W, HO⟩⟩
  iexists (∅ : Finset ℕ), W
  isplitr; · ipureintro; exact Finset.empty_subset _
  isplitl [Hat]; · iexact Hat
  isplitr
  · rw [bigSep_empty]; iempintro
  isplitl [Hc] <;> iassumption
theorem drained_end (c : Dev nD) (i : Fin 11) :
    drained G c i 1024 ⊢ iprop(atPos ER (kc c i) 1 ∅ 0 ∗ bigSep (Finset.range 1024) (fun d => (Rd G).payload (kc c i) 0 d) ∗ owx c 0) := by
  unfold drained owx
  rw [if_neg (by decide)]
  iintro ⟨%W, Hat, Hp, HO⟩
  isplitl [Hat]; · iexact Hat
  isplitl [Hp]; · iexact Hp
  iexists W
  iexact HO

/-! ## What a device is given and what it leaves -/

/-- The staged tables: the counts, the destinations, the ranks, and the destinations in scalar memory. -/
def stages (D : Data F) (c : Dev nD) : sProp 𝕄 :=
  iprop((((c : Thread nD τ).loc cc0_stg0_0) ↦{fullShare} (D.cnt c)) ∗ (((c : Thread nD τ).loc cc0_stg1_0) ↦{fullShare} (D.dest c))
    ∗ (((c : Thread nD τ).loc cc0_stg2_0) ↦{fullShare} (D.rank c)) ∗ (((c : Thread nD τ).loc cc0_stg3_0) ↦{fullShare} (D.dest c)))
/-- The kernel's own memory, whatever it holds. -/
def rooms (c : Dev nD) : sProp 𝕄 := iprop((∃ f, tab c Finset.univ f) ∗ (∃ f, pvm c f) ∗ (∃ f, psm c f))
/-- The device's places at its semaphores. -/
def opened (c : Dev nD) : sProp 𝕄 :=
  iprop(atPos ER (bar c) 0 ∅ 0 ∗ (bigSep Finset.univ fun i : Fin 11 => atPos ER (kc c i) 0 ∅ 0) ∗ bigSep Finset.univ fun i : Fin 11 => reached ER (kc c i) 0)
/-- The duties the device will perform. -/
def toks (c : Dev nD) : sProp 𝕄 :=
  iprop((bigSep (Finset.univ.filter fun k : Dev nD => 0 ≤ k.val ∧ k ≠ c) fun k => dutyTok ER (bar k) 0 c.val)
    ∗ (bigSep Finset.univ fun j : Fin 4 => dutyTok ER (kc c (iS j)) 0 0) ∗ (bigSep Finset.univ fun j : Fin 4 => dutyTok ER (kc (prt c j) (iR j)) 0 0)
    ∗ (bigSep Finset.univ fun k : Fin 1024 => dutyTok ER (kc c 8) 0 k.val)
    ∗ (bigSep Finset.univ fun k : Fin 1024 => dutyTok ER (kc (G.to (c, k)).1 9) 0 (D.pos c k))
    ∗ dutyTok ER (kc c 10) 0 0)
/-- What the device may take at its semaphores. -/
def creds (c : Dev nD) : sProp 𝕄 :=
  iprop(cred (tallyAt (bar c) () 15) ∗ (bigSep Finset.univ fun j : Fin 4 => cred (tallyAt (kc c (iR j)) () (NB j.val))) ∗ cred (tallyAt (kc c 9) () (1024 * NROW)))
/-- What the device leaves. -/
def leaves (c : Dev nD) : sProp 𝕄 :=
  iprop(owx c 0 ∗ stages D c ∗ rooms c ∗ xrow c Finset.univ (D.x c) ∗ orow c Finset.univ (G.outv c)
    ∗ semVal (bar c) 0 ∗ bigSep Finset.univ fun i : Fin 11 => semVal (kc c i) 0)

/-- Every semaphore the device used is back at zero. -/
theorem closing (κ : GSem nD τ sig → ℕ) (c : Dev nD) :
    iprop(env G κ ∗ atPos ER (bar c) 1 ∅ 0 ∗ bigSep Finset.univ fun i : Fin 11 => atPos ER (kc c i) 1 ∅ 0)
      ⊢ iprop(|={Set.univ}=> (semVal (bar c) 0 ∗ bigSep Finset.univ fun i : Fin 11 => semVal (kc c i) 0)) := by
  have h : iprop(env G κ ∗ bigSep Finset.univ fun i : Fin 11 => atPos ER (kc c i) 1 ∅ 0)
      ⊢ (iprop(|={Set.univ}=> bigSep Finset.univ fun i : Fin 11 => semVal (kc c i) 0) : sProp 𝕄) := by
    have hi : env G κ ⊢ bigSep Finset.univ fun i : Fin 11 => cellInv ER (Rd G) (κ (kc c i)) (kc c i) :=
      bigSep_intro_persistent fun i _ => env_kc G κ c i
    refine (BIClass.sep_mono hi .rfl).trans ?_
    rw [← bigSep_sep']
    exact Rounds.cells_close ER (Rd G) Finset.univ (fun i : Fin 11 => kc c i) (fun i => κ (kc c i)) (fun i _ => Set.mem_univ _) (fun i _ h => h) (fun _ => 1)
      (fun i _ => duties_later G (kc c i))
  iintro ⟨#HE, Hb, Hk⟩
  imod (Rounds.cell_close ER (Rd G) (Set.mem_univ (κ (bar c))) (fun h => h) (R := 1) (duties_later G (bar c))) $$ [Hb] with Hb
  · isplitr; · iapply (env_bar G κ c) $$ HE
    iexact Hb
  imod h $$ [Hk] with Hk
  · isplitr; · iexact HE
    iexact Hk
  imodintro
  isplitl [Hb] <;> iassumption

/-- The rows, once all sent and all arrived. -/
theorem rows_back (c : Dev nD) : bigSep (Finset.range 1024) (fun d => (Rd G).payload (kc c 8) 0 d) ⊢ (xrow c Finset.univ (D.x c) : sProp 𝕄) :=
  Entails.of_eq (by rw [xrow_rows]; exact range_rows _)
theorem rows_come (c : Dev nD) : bigSep (Finset.range 1024) (fun d => (Rd G).payload (kc c 9) 0 d) ⊢ (orow c Finset.univ (G.outv c) : sProp 𝕄) :=
  Entails.of_eq (by rw [orow_rows]; exact range_rows _)

/-- The signals to come, with what they hand over; the device's own share stays. -/
theorem first_signals (c : Dev nD) :
    iprop((bigSep (Finset.univ.filter fun k : Dev nD => 0 ≤ k.val ∧ k ≠ c) fun k => dutyTok ER (bar k) 0 c.val) ∗ bigSep Finset.univ fun k => giv D c k)
      ⊢ iprop(toSignal D c 0 ∗ giv D c c) := by
  unfold toSignal
  have h : (Finset.univ.filter fun k : Dev nD => 0 ≤ k.val ∧ k ≠ c) = Finset.univ.erase c := by
    ext k
    rw [Finset.mem_filter, Finset.mem_erase]
    exact ⟨fun h => ⟨h.2.2, h.1⟩, fun h => ⟨h.2, Nat.zero_le _, h.1⟩⟩
  rw [h, bigSep_sep', bigSep_take (Finset.mem_univ c)]
  iintro ⟨Ht, Hc, Hg⟩
  isplitl [Ht Hg]
  · isplitl [Ht] <;> iassumption
  iexact Hc

theorem todo_all (c : Dev nD) :
    iprop(xrow c Finset.univ (D.x c) ∗ (bigSep Finset.univ fun k : Fin 1024 => iprop(∃ f, orow (G.to (c, k)).1 (rowF (D.pos c k)) f))
        ∗ (bigSep Finset.univ fun k : Fin 1024 => dutyTok ER (kc c 8) 0 k.val) ∗ (bigSep Finset.univ fun k : Fin 1024 => dutyTok ER (kc (G.to (c, k)).1 9) 0 (D.pos c k)))
      ⊢ (bigSep (Finset.univ.filter fun k : Fin 1024 => 0 ≤ k.val) fun k => todo G c k : sProp 𝕄) := by
  unfold todo
  rw [Finset.filter_true_of_mem (fun k _ => Nat.zero_le _), bigSep_sep', bigSep_sep', bigSep_sep', xrow_rows]

set_option maxHeartbeats 16000000 in
/-- The whole program. -/
theorem whole (κ : GSem nD τ sig → ℕ) (c : Dev nD) :
    iprop(env G κ ∗ owx c (O₀ G c) ∗ opened c ∗ toks G c ∗ creds c ∗ stages D c ∗ rooms c ∗ xrow c Finset.univ (D.x c) ∗ (∃ f, orow c Finset.univ f))
      ⊢ wp frame (wpE (defs₀ (F := F)) 𝒱₀ (c : Thread nD τ) none) Set.univ
          (cc0__body (F := F) xM (Memref.isWhole_whole _) w0 (Memref.isWhole_whole _) w1 (Memref.isWhole_whole _) w2 (Memref.isWhole_whole _) w3 (Memref.isWhole_whole _)
            oM (Memref.isWhole_whole _) cM (Memref.isWhole_whole _) sM (Memref.isWhole_whole _) vM (Memref.isWhole_whole _) cc0_scratch3 cc0_scratch4 cc0_scratch5 cc0_scratch6 cc0_scratch7)
          (fun _ => leaves G c) := by
  rw [cc0__body_eq_skeleton]; unfold cc0__body_skel
  unfold opened toks creds rooms stages O₀ owx
  rw [eleven, eleven, four, four, four]
  iintro ⟨#HE, ⟨%W, HO⟩, ⟨HaB, ⟨Ha0, Ha1, Ha2, Ha3, Hb0, Hb1, Hb2, Hb3, Ha8, Ha9, Ha10⟩, ⟨#Hr0, #Hr1, #Hr2, #Hr3, #Hq0, #Hq1, #Hq2, #Hq3, #Hr8, #Hr9, #Hr10⟩⟩,
    ⟨HtB, ⟨Ht0, Ht1, Ht2, Ht3⟩, ⟨Hu0, Hu1, Hu2, Hu3⟩, Ht8, Ht9, Ht10⟩, ⟨HcB, ⟨Hc0, Hc1, Hc2, Hc3⟩, Hc9⟩, ⟨Hs0, Hs1, Hs2, Hs3⟩, ⟨Htab, ⟨%fv, Hpv⟩, ⟨%fs, Hps⟩⟩, Hx, Ho⟩
  ihave ⟨⟨%f0, Hrow⟩, Hg⟩ := carve G c $$ [Ho Htab]
  · isplitl [Ho]; · iexact Ho
    isplitl [Htab]; · iexact Htab
    rw [four]
    isplitr
    · isplitr; · iexact Hq0
      isplitr; · iexact Hq1
      isplitr; · iexact Hq2
      iexact Hq3
    iexact Hr9
  ihave ⟨HS, Hown⟩ := first_signals c $$ [HtB Hg]
  · isplitl [HtB] <;> iassumption
  iapply (part1 G κ c (owT c 0 + owR G c 0) W) $$ [HO HS]
  · isplitr; · iexact HE
    isplitl [HO] <;> iassumption
  iintro ⟨HO, HS⟩
  dsimp only
  iapply (part2 G κ c (owT c 0 + owR G c 0) ((above_owT c 0).add ((above_owR G c 0).mono (by omega))) W f0) $$ [HO HS HcB HaB Hs0 Hrow]
  · isplitr; · iexact HE
    isplitl [HO]; · iexact HO
    isplitl [HS]; · iexact HS
    isplitl [HcB]; · iexact HcB
    isplitl [HaB]; · iexact HaB
    isplitl [Hs0] <;> iassumption
  iintro ⟨HO, HaB, Hgs, Hs0, Hrow⟩
  ihave Hgs := met c $$ [Hown Hgs]
  · isplitl [Hown] <;> iassumption
  ihave ⟨Hplaces, Hx4, #H9⟩ := collect G c $$ Hgs
  have h4 := Entails.of_eq (four (F := F) (fun j : Fin 4 => iprop((∃ f, tab (prt c j) (rowsV (fst c j.val) (2 ^ j.val)) f) ∗ reached ER (kc (prt c j) (iR j)) 0)))
  ihave Hx4 := h4 $$ Hx4
  icases Hx4 with ⟨⟨Hp0, #Hz0⟩, ⟨Hp1, #Hz1⟩, ⟨Hp2, #Hz2⟩, ⟨Hp3, #Hz3⟩⟩
  iapply (part3 G κ c _ (owR G c 0) (above_owR G c 0)) $$ [HO Hrow Hp0 Ht0 Hu0 Ha0 Hb0 Hc0]
  · isplitr; · iexact HE
    isplitl [Hp0 Ht0 Hu0 Ha0 Hb0 Hc0]
    · unfold exA
      isplitl [Hp0]; · iexact Hp0
      isplitr; · iexact Hz0
      isplitl [Ht0]; · iexact Ht0
      isplitr; · iexact Hr0
      isplitl [Hu0]; · iexact Hu0
      isplitl [Ha0]; · iexact Ha0
      isplitl [Hb0] <;> iassumption
    isplitl [Hrow]; · iexact Hrow
    unfold owx
    iexact HO
  iintro %v3 ⟨HD0, Hrow, HO⟩
  iapply (part4 G κ c _ _ (owR G c 0) (above_owR G c 0)) $$ [HO Hrow Hp1 Ht1 Hu1 Ha1 Hb1 Hc1 Hp2 Ht2 Hu2 Ha2 Hb2 Hc2]
  · isplitr; · iexact HE
    isplitl [Hp1 Ht1 Hu1 Ha1 Hb1 Hc1]
    · unfold exA
      isplitl [Hp1]; · iexact Hp1
      isplitr; · iexact Hz1
      isplitl [Ht1]; · iexact Ht1
      isplitr; · iexact Hr1
      isplitl [Hu1]; · iexact Hu1
      isplitl [Ha1]; · iexact Ha1
      isplitl [Hb1] <;> iassumption
    isplitl [Hp2 Ht2 Hu2 Ha2 Hb2 Hc2]
    · unfold exA
      isplitl [Hp2]; · iexact Hp2
      isplitr; · iexact Hz2
      isplitl [Ht2]; · iexact Ht2
      isplitr; · iexact Hr2
      isplitl [Hu2]; · iexact Hu2
      isplitl [Ha2]; · iexact Ha2
      isplitl [Hb2] <;> iassumption
    isplitl [Hrow] <;> iassumption
  iintro ⟨HD1, HC, HO⟩
  iapply (part5 G κ c _ (owR G c 0) (above_owR G c 0)) $$ [HO HC Hp3 Ht3 Hu3 Ha3 Hb3 Hc3]
  · isplitr; · iexact HE
    isplitl [HC]; · iexact HC
    isplitl [Hp3 Ht3 Hu3 Ha3 Hb3 Hc3]
    · unfold exA
      isplitl [Hp3]; · iexact Hp3
      isplitr; · iexact Hz3
      isplitl [Ht3]; · iexact Ht3
      isplitr; · iexact Hr3
      isplitl [Hu3]; · iexact Hu3
      isplitl [Ha3]; · iexact Ha3
      isplitl [Hb3] <;> iassumption
    iexact HO
  iintro ⟨HD2, HD3, Htab, HO⟩
  dsimp only
  iapply (part6 c _ _ _) $$ [Hs1 Hs2]
  · isplitl [Hs1] <;> iassumption
  iintro ⟨Hs1, Hs2⟩
  dsimp only
  iapply (part7 c _ _ _ _)
  dsimp only
  iapply (part8 G κ c _ _ _ _ rfl (owR G c 0) (above_owR G c 0) fv fs) $$ [Hpv Hps Ht10 Ha10 HO]
  · isplitr; · iexact HE
    isplitl [Hpv]; · iexact Hpv
    isplitl [Hps]; · iexact Hps
    isplitl [Ht10]; · iexact Ht10
    isplitr; · iexact Hr10
    isplitl [Ha10] <;> iassumption
  iintro ⟨Hpv, Hps, Ha10, HO⟩
  iapply (loop1 G κ c) $$ [Hx Hplaces Ht8 Ht9 HO Hs3 Hps]
  · unfold sending know
    isplitr
    · isplitr; · iexact HE
      isplitr; · iexact Hr8
      iexact H9
    isplitl [Hx Hplaces Ht8 Ht9]
    · iapply (todo_all G c)
      isplitl [Hx]; · iexact Hx
      isplitl [Hplaces]; · iexact Hplaces
      isplitl [Ht8] <;> iassumption
    isplitl [HO]; · iexact HO
    isplitr
    · rw [Nat.zero_mul, tallyAt_zero, cred_zero]; iempintro
    isplitl [Hs3] <;> iassumption
  unfold sending
  iintro ⟨-, -, HO, Hc8, Hs3, Hps⟩
  have hO : (owx c (owR G c 1024) : sProp 𝕄) ⊢ owx c 0 := Entails.of_eq (congrArg (owx c) (owR_end G c))
  ihave HO := hO $$ HO
  iapply (loop2 G κ c) $$ [Ha8 Hc8 HO]
  · isplitr; · iexact HE
    iapply (drained_start G c 8)
    isplitl [Ha8]; · iexact Ha8
    isplitl [Hc8] <;> iassumption
  iintro Hd
  ihave ⟨Ha8, Hx, HO⟩ := drained_end G c 8 $$ Hd
  iapply (loop3 G κ c) $$ [Ha9 Hc9 HO]
  · isplitr; · iexact HE
    iapply (drained_start G c 9)
    isplitl [Ha9]; · iexact Ha9
    isplitl [Hc9] <;> iassumption
  iintro Hd
  ihave ⟨Ha9, Ho, HO⟩ := drained_end G c 9 $$ Hd
  unfold exD
  icases HD0 with ⟨Ha0, Hb0⟩
  icases HD1 with ⟨Ha1, Hb1⟩
  icases HD2 with ⟨Ha2, Hb2⟩
  icases HD3 with ⟨Ha3, Hb3⟩
  imod (closing G κ c) $$ [HaB Ha0 Ha1 Ha2 Ha3 Hb0 Hb1 Hb2 Hb3 Ha8 Ha9 Ha10] with ⟨HzB, Hz⟩
  · isplitr; · iexact HE
    isplitl [HaB]; · iexact HaB
    rw [eleven]
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Ha8]; · iexact Ha8
    isplitl [Ha9] <;> iassumption
  simp only [Prog.pure_eq_ret]
  rw [wp_ret]
  imodintro
  unfold leaves stages rooms
  isplitl [HO]; · iexact HO
  isplitl [Hs0 Hs1 Hs2 Hs3]
  · isplitl [Hs0]; · iexact Hs0
    isplitl [Hs1]; · iexact Hs1
    isplitl [Hs2] <;> iassumption
  isplitl [Htab Hpv Hps]
  · isplitl [Htab]; · iexists _; iexact Htab
    isplitl [Hpv]; · iexists _; iexact Hpv
    iexists _; iexact Hps
  isplitl [Hx]; · iapply (rows_back G c) $$ Hx
  isplitl [Ho]; · iapply (rows_come G c) $$ Ho
  isplitl [HzB] <;> iassumption

end Cert.Route

end
-- ==== Proof.Region.lean ====
/-
The kernel as one region of the program: what each device holds around it, and that it runs.
-/
module

public import proofs.«01_k».proof.Proof.Whole
public import Idealize.ShloMosaic.Lib.Pipeline.Regions
public import Idealize.ShloMosaic.Lib.Pipeline.RegionsLoop
public import Idealize.ShloMosaic.Lib.Pipeline.ValueKit

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The data of a launch on the memory `m`: what the operations before the kernel leave. -/
def dat : Data F where
  cnt c := V m c main_v17
  dest c := V m c main_v18
  rank c := V m c main_v19
  x c := V m c main_v20

variable (G : (dat m).Good)

/-! ## What a device holds as the kernel starts, and as it ends -/

/-- What the kernel is entered with, beside the staged tables and its own memory. -/
def enter (c : Dev nD) : sProp 𝕄 :=
  iprop((∃ κ, env G κ) ∗ opened c ∗ toks G c ∗ creds c ∗ xrow c Finset.univ ((dat m).x c) ∗ ∃ f, orow c Finset.univ f)
/-- What it is left with: the rows as they were, the result, the barrier's counter at zero. -/
def leave (c : Dev nD) : sProp 𝕄 :=
  iprop(xrow c Finset.univ ((dat m).x c) ∗ orow c Finset.univ (G.outv c) ∗ semVal (bar c) 0)
/-- The kernel's own semaphores at zero. -/
def zeros (c : Dev nD) : sProp 𝕄 := bigSep Finset.univ fun i : Fin 11 => semVal (kc c i) 0

abbrev adm : (p : Fin 1) → (pcfgs (F := F) p).Adm := fun p => (cfgs p).toPCfg_adm

def reg (c : Dev nD) : Dat τ (Elt F) Unit ℕ UU ℕ cfg0 c where
  A w := V m c (Pipeline.arrRef spec0 w)
  after w _ := match w with
    | ⟨0, _⟩ => (dat m).cnt c
    | ⟨1, _⟩ => (dat m).dest c
    | ⟨2, _⟩ => (dat m).rank c
    | ⟨3, _⟩ => (dat m).dest c
  Φ t := match t with
    | ⟨0, _⟩ => iprop(enter m G c ∗ rooms c)
    | ⟨_ + 1, _⟩ => iprop(leave m G c ∗ zeros c ∗ rooms c)
  q w := Pipeline.shareOf spec0 w
  owed t := match t with
    | ⟨0, _⟩ => O₀ G c
    | ⟨_ + 1, _⟩ => 0

def pdats : (p : Fin 1) → (c : Dev nD) → Dat τ (Elt F) Unit ℕ UU ℕ (Pipeline.pin (pcfgs (F := F)) adm p) c
  | 0 => reg m G

/-! ## The body -/

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev held1 (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Each staged table is its array whole. -/
theorem iblk_0 (c : Dev nD) : iblk m c 0 t0_0 = V m c main_v17 := by
  funext i
  show V m c main_v17 _ = V m c main_v17 i
  congr 1
  funext a
  apply Fin.ext
  fin_cases a
  · show 0 * 8 + 1 * (i 0).val = _
    simp
  · show 0 * 128 + 1 * (i 1).val = _
    simp
theorem iblk_1 (c : Dev nD) : iblk m c 1 t0_0 = V m c main_v18 := by
  funext i
  show V m c main_v18 _ = V m c main_v18 i
  congr 1
  funext a
  apply Fin.ext
  fin_cases a
  · show 0 * 8 + 1 * (i 0).val = _
    simp
  · show 0 * 128 + 1 * (i 1).val = _
    simp
theorem iblk_2 (c : Dev nD) : iblk m c 2 t0_0 = V m c main_v19 := by
  funext i
  show V m c main_v19 _ = V m c main_v19 i
  congr 1
  funext a
  apply Fin.ext
  fin_cases a
  · show 0 * 8 + 1 * (i 0).val = _
    simp
  · show 0 * 128 + 1 * (i 1).val = _
    simp
theorem iblk_3 (c : Dev nD) : iblk m c 3 t0_0 = V m c main_v18 := by
  funext i
  show V m c main_v18 _ = V m c main_v18 i
  congr 1
  funext a
  apply Fin.ext
  fin_cases a
  · show 0 * 8 + 1 * (i 0).val = _
    simp
  · show 0 * 128 + 1 * (i 1).val = _
    simp

theorem dat_cnt (c : Dev nD) : (dat m).cnt c = V m c main_v17 := by simp only [dat]
theorem dat_dest (c : Dev nD) : (dat m).dest c = V m c main_v18 := by simp only [dat]
theorem dat_rank (c : Dev nD) : (dat m).rank c = V m c main_v19 := by simp only [dat]
theorem reg_A (c : Dev nD) (w : Fin 4) : (reg m G c).A w = V m c (Pipeline.arrRef spec0 w) := rfl
theorem before_0 (c : Dev nD) (d) : (reg m G c).before (0 : Fin 4) t0_0 d = (dat m).cnt c := by
  unfold Dat.before; rw [if_pos (fetch0_0 t0_0), dat_cnt, ← iblk_0]; unfold Dat.fetched Dat.blockOf iblk; rw [reg_A]; rfl
theorem before_1 (c : Dev nD) (d) : (reg m G c).before (1 : Fin 4) t0_0 d = (dat m).dest c := by
  unfold Dat.before; rw [if_pos (fetch0_1 t0_0), dat_dest, ← iblk_1]; unfold Dat.fetched Dat.blockOf iblk; rw [reg_A]; rfl
theorem before_2 (c : Dev nD) (d) : (reg m G c).before (2 : Fin 4) t0_0 d = (dat m).rank c := by
  unfold Dat.before; rw [if_pos (fetch0_2 t0_0), dat_rank, ← iblk_2]; unfold Dat.fetched Dat.blockOf iblk; rw [reg_A]; rfl
theorem before_3 (c : Dev nD) (d) : (reg m G c).before (3 : Fin 4) t0_0 d = (dat m).dest c := by
  unfold Dat.before; rw [if_pos (fetch0_3 t0_0), dat_dest, ← iblk_3]; unfold Dat.fetched Dat.blockOf iblk; rw [reg_A]; rfl

def bodyPre (c : Dev nD) : sProp 𝕄 :=
  iprop((enter m G c ∗ rooms c) ∗ (reg m G c).owesAt () t0_0.castSucc
    ∗ (∃ d, held1 c cc0_stg0_0 ((reg m G c).before (0 : Fin 4) t0_0 d))
    ∗ (∃ d, held1 c cc0_stg1_0 ((reg m G c).before (1 : Fin 4) t0_0 d))
    ∗ (∃ d, held1 c cc0_stg2_0 ((reg m G c).before (2 : Fin 4) t0_0 d))
    ∗ (∃ d, held1 c cc0_stg3_0 ((reg m G c).before (3 : Fin 4) t0_0 d)))
def bodyPost (c : Dev nD) : sProp 𝕄 :=
  iprop((leave m G c ∗ zeros c ∗ rooms c) ∗ (reg m G c).owesAt () t0_0.succ
    ∗ held1 c cc0_stg0_0 ((dat m).cnt c) ∗ held1 c cc0_stg1_0 ((dat m).dest c) ∗ held1 c cc0_stg2_0 ((dat m).rank c) ∗ held1 c cc0_stg3_0 ((dat m).dest c))

theorem leaves_post (c : Dev nD) : leaves G c ⊢ bodyPost m G c := by
  unfold leaves bodyPost stages leave zeros owx Dat.owesAt Pipeline.owesWithin
  rw [show (reg m G c).owed t0_0.succ = 0 from rfl]
  iintro ⟨⟨%W, HO⟩, ⟨H0, H1, H2, H3⟩, Hr, Hx, Ho, Hb, Hz⟩
  isplitl [Hr Hx Ho Hb Hz]
  · isplitl [Hx Ho Hb]
    · isplitl [Hx]; · iexact Hx
      isplitl [Ho] <;> iassumption
    isplitl [Hz] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The program on one device, between what the launch's machinery hands it and takes back. -/
theorem body_run (c : Dev nD) :
    bodyPre m G c ⊢ wp frame (wpE (defs₀ (F := F)) 𝒱₀ (c : Thread nD τ) none) Set.univ
      (cc0__body (F := F) xM (Memref.isWhole_whole _) w0 (Memref.isWhole_whole _) w1 (Memref.isWhole_whole _) w2 (Memref.isWhole_whole _) w3 (Memref.isWhole_whole _)
        oM (Memref.isWhole_whole _) cM (Memref.isWhole_whole _) sM (Memref.isWhole_whole _) vM (Memref.isWhole_whole _) cc0_scratch3 cc0_scratch4 cc0_scratch5 cc0_scratch6 cc0_scratch7)
      (fun _ => bodyPost m G c) := by
  refine BIBase.Entails.trans ?_ (wp_mono frame _ _ fun _ => leaves_post m G c)
  unfold bodyPre enter Dat.owesAt Pipeline.owesWithin
  rw [show (reg m G c).owed t0_0.castSucc = O₀ G c from rfl]
  iintro ⟨⟨⟨⟨%κ, HE⟩, Hop, Ht, Hc, Hx, Ho⟩, Hr⟩, ⟨%W, %hW, HO⟩, ⟨%d0, %f0, %h0, H0⟩, ⟨%d1, %f1, %h1, H1⟩, ⟨%d2, %f2, %h2, H2⟩, ⟨%d3, %f3, %h3, H3⟩⟩
  rw [before_0] at h0; rw [before_1] at h1; rw [before_2] at h2; rw [before_3] at h3
  subst h0 h1 h2 h3
  iapply (whole G κ c)
  isplitl [HE]; · iexact HE
  isplitl [HO]; · unfold owx; iexists W; iexact HO
  isplitl [Hop]; · iexact Hop
  isplitl [Ht]; · iexact Ht
  isplitl [Hc]; · iexact Hc
  isplitl [H0 H1 H2 H3]
  · unfold stages
    isplitl [H0]; · iexact H0
    isplitl [H1]; · iexact H1
    isplitl [H2] <;> iassumption
  isplitl [Hr]; · iexact Hr
  isplitl [Hx] <;> iassumption

set_option maxRecDepth 40000 in
theorem body_obligation (c : Dev nD) : BodyObligation (reg m G c) (defs₀ (F := F)) 𝒱₀ () Set.univ := fun t => by
  rw [fin_N0 t]
  rw [bigSep_W0, bigSep_W0]
  simp only [owns_all]
  exact body_run m G c

end Cert.Route

end
-- ==== Proof.Segs.lean ====
/-
The program as three stretches: the operations before the kernel, the kernel, the operations after it.
-/
module

public import proofs.«01_k».proof.Proof.Region
public import Idealize.ShloMosaic.Lib.Rounds.Family
public import Idealize.ShloMosaic.Lib.Pipeline.RegionArrays

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (G : (dat m).Good)

/-! ## What rides along -/

/-- What a device holds beside its buffers before the kernel. -/
def ride (c : Dev nD) : sProp 𝕄 :=
  iprop((∃ κ, env G κ) ∗ atPos ER (bar c) 0 ∅ 0 ∗ (bigSep Finset.univ fun i : Fin 11 => openTok ER (kc c i)) ∗ toks G c ∗ creds c ∗ ∃ W, owes (c : Thread nD τ) (O₀ G c) W)
/-- And after it. -/
def rode (c : Dev nD) : sProp 𝕄 :=
  iprop(semVal (bar c) 0 ∗ ∃ W, owes (c : Thread nD τ) (0 : CellTallies nD τ sig Unit) W)

/-- The buffers as the kernel leaves them: as they were, but for the result. -/
def V1 (c : Dev nD) : Valuation τ sig (Elt F) := Function.update (V0 m c) (Proc.devRef .tc main_v21) (G.outv c)

theorem V1_out (c : Dev nD) : V1 m G c (Proc.devRef .tc main_v21) = G.outv c := Function.update_self ..
theorem V1_ne (c : Dev nD) (b : Ref sig .tc) (h : b ≠ main_v21) : V1 m G c (Proc.devRef .tc b) = V m c b :=
  Function.update_of_ne (fun e => h (Proc.devRef_injective _ e)) ..

/-- The buffers that are no table's array. -/
abbrev restR : Finset (Ref sig .tc) := (Finset.univ.filter fun b : Ref sig .tc => ¬ b.isScoped) \ Finset.univ.image (Pipeline.arrRef spec0)

theorem v20_rest : main_v20 ∈ restR := by decide
theorem v21_rest : main_v21 ∈ restR.erase main_v20 := by decide
theorem v21_rest' : main_v21 ∈ restR := by decide
theorem v20_ne : main_v20 ≠ main_v21 := by decide

/-- What the kernel does not touch, on a device whose buffers read `W`. -/
def aside (c : Dev nD) (W : (b : Ref sig .tc) → Buf (Elt F) ((c : Thread nD τ).loc b)) : sProp 𝕄 :=
  bigSep ((restR.erase main_v20).erase main_v21) fun b => ((c : Thread nD τ).loc b) ↦{fullShare} W b

theorem rest_take (c : Dev nD) (W : (b : Ref sig .tc) → Buf (Elt F) ((c : Thread nD τ).loc b)) :
    (Pipeline.unscopedRest (Ix := Unit) (Name := ℕ) (U := UU) (Lvl := ℕ) spec0 c W : sProp 𝕄)
      = iprop(xrow c Finset.univ (W main_v20) ∗ orow c Finset.univ (W main_v21) ∗ aside c W) := by
  unfold Pipeline.unscopedRest aside
  rw [bigSep_take (i := main_v20) v20_rest, bigSep_take (i := main_v21) v21_rest]

theorem aside_congr (c : Dev nD) (W W' : (b : Ref sig .tc) → Buf (Elt F) ((c : Thread nD τ).loc b)) (h : ∀ b, b ≠ main_v21 → W b = W' b) :
    (aside c W : sProp 𝕄) = aside c W' := by
  unfold aside
  exact bigSep_congr fun b hb => by rw [h b (Finset.ne_of_mem_erase hb)]

/-! ## The kernel's stretch -/

abbrev osem : Fin 11 → SemLoc sig := fun i => .dma (own i)

theorem ownSems_eq (c : Dev nD) : (Pipeline.ownSems0 (Ix := Unit) (Val := Elt F) (Name := ℕ) (U := UU) (Lvl := ℕ) (τ := τ) osem c : sProp 𝕄) = zeros c := rfl

theorem pref_none (c : Dev nD) : (Pipeline.prefHeld (Ix := Unit) (Name := ℕ) (U := UU) (Lvl := ℕ) (pcfgs (F := F) 0).pre c (fun _ => fullShare) (adm 0).1 : sProp 𝕄) = iprop(emp) :=
  Pipeline.prefHeld_of_none (pcfgs (F := F) 0).pre rfl c _ _

theorem own_facts : Pipeline.OwnSemFacts spec0 osem := by decide

theorem zeros_open (κ : GSem nD τ sig → ℕ) (c : Dev nD) :
    iprop(env G κ ∗ (bigSep Finset.univ fun i : Fin 11 => openTok ER (kc c i)) ∗ zeros c)
      ⊢ |={Set.univ}=> ((bigSep Finset.univ fun i : Fin 11 => atPos ER (kc c i) 0 ∅ 0) ∗ bigSep Finset.univ fun i : Fin 11 => reached ER (kc c i) 0 : sProp 𝕄) := by
  rw [← bigSep_sep']
  unfold zeros
  iintro ⟨#HE, Ho, Hz⟩
  iapply (Rounds.cells_open ER (Rd G) Finset.univ (fun i : Fin 11 => kc c i) (fun i => κ (kc c i)) (fun _ _ => Set.mem_univ _))
  isplitl [Ho]
  · have h : iprop(env G κ ∗ bigSep Finset.univ fun i : Fin 11 => openTok ER (kc c i))
        ⊢ (bigSep Finset.univ fun i : Fin 11 => iprop(cellInv ER (Rd G) (κ (kc c i)) (kc c i) ∗ openTok ER (kc c i)) : sProp 𝕄) :=
      (BIClass.sep_mono .rfl .rfl).trans (bigSep_with_persistent fun i _ => BIClass.sep_mono (env_kc G κ c i) .rfl)
    iapply h
    isplitr; · iexact HE
    iexact Ho
  iexact Hz

theorem scopedRest_rooms (c : Dev nD) :
    (Pipeline.scopedRest (Ix := Unit) (Name := ℕ) (U := UU) (Lvl := ℕ) (Val := Elt F) (Pipeline.pin (pcfgs (F := F)) adm 0).spec c : sProp 𝕄) = rooms c :=
  scopedRest0_eq c

theorem lv_stage (c : Dev nD) (w : Fin 4) (s : Fin (spec0 w).nbuf) : lv ((c : Thread nD τ), .dma ((spec0 w).sem s)) () ≤ 0 := by
  fin_cases w <;> exact le_of_eq (by unfold lv; rfl)

theorem stage_wait (c : Dev nD) (w : Fin 4) (s : Fin (spec0 w).nbuf) (t : Fin (cfg0.N + 1)) :
    (levAts L lv : sProp 𝕄) ⊢ MayWait (c : Thread nD τ) (.dma ((spec0 w).sem s)) () ((reg m G c).owed t) := by
  refine mayWait c _ 0 (lv_stage c w s) ?_
  match t with
  | ⟨0, _⟩ => exact above_O₀ G c
  | ⟨_ + 1, _⟩ => exact Above.zero

theorem arr_end (c : Dev nD) (w : Fin 4) : (reg m G c).arrAt w cfg0.N = V1 m G c (Proc.devRef .tc (Pipeline.arrRef spec0 w)) := by
  refine (Dat.arrAt_in (reg m G c) w (by fin_cases w <;> rfl) cfg0.N).trans ?_
  rw [reg_A, V1_ne]
  fin_cases w <;> decide

theorem dat_x (c : Dev nD) : (dat m).x c = V m c main_v20 := by simp only [dat]

/-- The kernel's stretch. -/
def kern : Pipeline.RegionSeg (pcfgs (F := F)) adm (pdats m G) () defs₀ 𝒱₀ L lv 0 where
  win := winFacts₀0
  block_pos := block_pos0
  stage_whole := stage_whole0
  K := Fin 11
  osem := osem
  ho := own_facts
  hbody c := (body_obligation m G c).loose
  hwaits c := Pipeline.cellsWaits_intro (Pipeline.pin (pcfgs (F := F)) adm) (pdats m G) () 0 c fun w s t => stage_wait m G c w s t
  pre c := iprop(StableHlo.held (c : Thread nD τ) (Pipeline.ucRefs τ sig) (V0 m c) ∗ ride m G c)
  post c := iprop(StableHlo.held (c : Thread nD τ) (Pipeline.ucRefs τ sig) (V1 m G c) ∗ rode c)
  X c := enter m G c
  Y c := leave m G c
  Z c := aside c (V m c)
  hentry c := by
    rw [ownSems_eq, pref_none, ← Pipeline.unscopedBufs_held]
    have hsplit := Pipeline.arrays_of_unscopedBufs_shared (pcfgs (F := F)) adm (pdats m G) (p := 0) winFacts₀0 sharedIn0 arr_whole0 c (fun _ _ => rfl) (V m c) (fun _ => rfl)
    unfold ride
    iintro ⟨⟨Hb, ⟨%κ, #HE⟩, Hbar, Hot, Ht, Hc, HO⟩, Hz, #HL⟩
    ihave Hs := hsplit $$ Hb
    icases Hs with ⟨Ha, Hr⟩
    ihave Hr2 := (Entails.of_eq (rest_take c (V m c))) $$ Hr
    icases Hr2 with ⟨Hx, Ho, Hz2⟩
    imod (zeros_open m G κ c) $$ [Hot Hz] with ⟨H1, H2⟩
    · isplitr; · iexact HE
      isplitl [Hot] <;> iassumption
    imodintro
    isplitl [Ha]; · iexact Ha
    isplitr; · iempintro
    isplitl [HO]
    · icases HO with ⟨%W, HO⟩
      unfold Dat.owesAt Pipeline.owesWithin
      rw [show (pdats m G 0 c).owed 0 = O₀ G c from rfl]
      iexists W
      isplitr; · ipureintro; exact fun _ _ => Or.inl trivial
      iexact HO
    isplitr [Hz2]
    · unfold enter opened
      isplitr; · iexists κ; iexact HE
      isplitl [Hbar H1 H2]
      · isplitl [Hbar]; · iexact Hbar
        isplitl [H1] <;> iassumption
      isplitl [Ht]; · iexact Ht
      isplitl [Hc]; · iexact Hc
      isplitl [Hx]; · rw [dat_x]; iexact Hx
      iexists _; iexact Ho
    iexact Hz2
  hin c := by
    rw [show (pdats m G 0 c).Φ 0 = iprop(enter m G c ∗ rooms c) from rfl, scopedRest_rooms]
    iintro ⟨HX, -, Hr⟩
    isplitl [HX] <;> iassumption
  hout c := by
    rw [show (pdats m G 0 c).Φ (Fin.last _) = iprop(leave m G c ∗ zeros c ∗ rooms c) from rfl, scopedRest_rooms, ownSems_eq]
  hexit c := by
    rw [← Pipeline.unscopedBufs_held]
    have hjoin := Pipeline.unscopedBufs_of_arrays_shared (pcfgs (F := F)) adm (p := 0) winFacts₀0 sharedIn0 arr_whole0 c (pdats m G) (fun _ _ => rfl)
      (fun b => V1 m G c (Proc.devRef .tc b)) (fun b => V1 m G c (Proc.devRef .tc b)) ((pdats m G 0 c).arrAt · (Pipeline.pin (pcfgs (F := F)) adm 0).N)
      (fun w => arr_end m G c w) (fun _ _ => rfl)
    unfold leave rode
    iintro ⟨Ha, HO, ⟨Hx, Ho, Hb⟩, Hz⟩
    imodintro
    isplitr [HO Hb]
    · iapply hjoin
      isplitl [Ha]; · iexact Ha
      iapply (Entails.of_eq (rest_take c (fun b => V1 m G c (Proc.devRef .tc b))).symm)
      isplitl [Hx]
      · rw [V1_ne m G c main_v20 v20_ne, ← dat_x]; iexact Hx
      isplitl [Ho]
      · rw [V1_out]; iexact Ho
      rw [aside_congr c (fun b => V1 m G c (Proc.devRef .tc b)) (V m c) (fun b h => V1_ne m G c b h)]
      iexact Hz
    isplitl [Hb]; · iexact Hb
    unfold Dat.owesAt Pipeline.owesWithin
    rw [show (pdats m G 0 c).owed (Fin.last _) = 0 from rfl]
    icases HO with ⟨%W, -, HO⟩
    iexists W; iexact HO

end Cert.Route

end
-- ==== Proof.Start.lean ====
/-
The launch: which semaphores and duties there are, what each device may take, and how they are handed out.
-/
module

public import proofs.«01_k».proof.Proof.Segs
public import Idealize.ShloMosaic.Adequacy
public import Idealize.ShloMosaic.Init

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores and the duties -/

section Cells
variable {D : Data F} (G : D.Good)

theorem bar_inj : Function.Injective (bar : Dev nD → GSem nD τ sig) := fun a b h => congrArg (fun g : GSem nD τ sig => g.1.1) h
theorem kc_inj : Function.Injective (fun ei : Dev nD × Fin 11 => (kc ei.1 ei.2 : GSem nD τ sig)) := fun a b h => by
  have h1 : a.1 = b.1 := congrArg (fun g : GSem nD τ sig => g.1.1) h
  have h2 : own a.2 = own b.2 := by
    have h3 : (SemLoc.dma (own a.2) : SemLoc sig) = .dma (own b.2) := congrArg (fun g : GSem nD τ sig => g.2) h
    injection h3
  have h4 := congrArg Fin.val h2
  exact Prod.ext h1 (Fin.ext (by simp only at h4; omega))

/-- The semaphores in use from the start, and those that open with the kernel. -/
def live : Finset (GSem nD τ sig) := Finset.univ.image bar
def shut : Finset (GSem nD τ sig) := Finset.univ.image fun ei : Dev nD × Fin 11 => kc ei.1 ei.2

theorem bar_ne_kc (c e : Dev nD) (i : Fin 11) : (bar c : GSem nD τ sig) ≠ kc e i := fun h => by
  have h3 : (SemLoc.reg barS : SemLoc sig) = .dma (own i) := congrArg (fun g : GSem nD τ sig => g.2) h
  cases h3
theorem live_shut : Disjoint live shut := Finset.disjoint_left.mpr fun g h h' => by
  obtain ⟨c, -, rfl⟩ := Finset.mem_image.mp h
  obtain ⟨ei, -, e⟩ := Finset.mem_image.mp h'
  exact bar_ne_kc c ei.1 ei.2 e.symm

/-- What a semaphore is for. -/
def use : SemLoc sig → ℕ
  | .reg _ => 0
  | .dma q => if q.val < 8 then 1 else if q.val < 12 then 2 else q.val

abbrev Duty := GSem nD τ sig × ℕ × ℕ

def tB : Dev nD × Dev nD → Duty := fun ck => (bar ck.2, 0, ck.1.val)
def tS : Dev nD × Fin 4 → Duty := fun cj => (kc cj.1 (iS cj.2), 0, 0)
def tR : Dev nD × Fin 4 → Duty := fun cj => (kc (prt cj.1 cj.2) (iR cj.2), 0, 0)
def t8 : Dev nD × Fin 1024 → Duty := fun ck => (kc ck.1 8, 0, ck.2.val)
def t9 : Dev nD × Fin 1024 → Duty := fun ck => (kc (G.to ck).1 9, 0, (G.to ck).2.val)
def tC : Dev nD → Duty := fun c => (kc c 10, 0, 0)

theorem tB_inj : Function.Injective tB := fun a b h => by
  have h1 := bar_inj (congrArg Prod.fst h)
  have h2 : a.1.val = b.1.val := congrArg (fun t : Duty => t.2.2) h
  exact Prod.ext (Fin.ext h2) h1
theorem tS_inj : Function.Injective tS := fun a b h => by
  have h1 : (a.1, iS a.2) = (b.1, iS b.2) := kc_inj (congrArg Prod.fst h)
  have h2 := congrArg Prod.fst h1
  have h3 := congrArg (fun x => x.2.val) h1
  exact Prod.ext h2 (Fin.ext h3)
theorem tR_inj : Function.Injective tR := fun a b h => by
  have h1 : (prt a.1 a.2, iR a.2) = (prt b.1 b.2, iR b.2) := kc_inj (congrArg Prod.fst h)
  have h3 : a.2 = b.2 := Fin.ext (by have := congrArg (fun x => x.2.val) h1; simp only at this; omega)
  have h2 : prt a.1 a.2 = prt b.1 b.2 := congrArg Prod.fst h1
  refine Prod.ext ?_ h3
  rw [← prt_prt a.1 a.2, h2, h3, prt_prt]
theorem t8_inj : Function.Injective t8 := fun a b h => by
  have h1 : (a.1, (8 : Fin 11)) = (b.1, 8) := kc_inj (congrArg Prod.fst h)
  have h2 : a.2.val = b.2.val := congrArg (fun t : Duty => t.2.2) h
  have h3 := congrArg Prod.fst h1
  exact Prod.ext h3 (Fin.ext h2)
theorem t9_inj : Function.Injective (t9 G) := fun a b h => G.to_inj (by
  have h1 : ((G.to a).1, (9 : Fin 11)) = ((G.to b).1, 9) := kc_inj (congrArg Prod.fst h)
  have h2 : (G.to a).2.val = (G.to b).2.val := congrArg (fun t : Duty => t.2.2) h
  have h3 := congrArg Prod.fst h1
  exact Prod.ext h3 (Fin.ext h2))
theorem tC_inj : Function.Injective tC := fun a b h => by
  have h1 : (a, (10 : Fin 11)) = (b, 10) := kc_inj (congrArg Prod.fst h)
  exact congrArg Prod.fst h1

theorem use_tB (x) : use (tB x).1.2 = 0 := rfl
theorem use_tS (x) : use (tS x).1.2 = 1 := by
  show (if 4 + x.2.val < 8 then 1 else _) = 1
  rw [if_pos (by omega)]
theorem use_tR (x) : use (tR x).1.2 = 2 := by
  show (if 4 + (4 + x.2.val) < 8 then 1 else if 4 + (4 + x.2.val) < 12 then 2 else _) = 2
  rw [if_neg (by omega), if_pos (by omega)]
theorem use_t8 (x) : use (t8 x).1.2 = 12 := rfl
theorem use_t9 (x) : use (t9 G x).1.2 = 13 := rfl
theorem use_tC (x) : use (tC x).1.2 = 14 := rfl

def dB : Finset Duty := (Finset.univ.filter fun ck : Dev nD × Dev nD => 0 ≤ ck.2.val ∧ ck.2 ≠ ck.1).image tB
def duties : Finset Duty :=
  dB ∪ (Finset.univ.image tS ∪ (Finset.univ.image tR ∪ (Finset.univ.image t8 ∪ (Finset.univ.image (t9 G) ∪ Finset.univ.image tC))))

theorem apart {A B : Finset Duty} (a : ℕ) (hA : ∀ x ∈ A, use x.1.2 = a) (hB : ∀ x ∈ B, use x.1.2 ≠ a) : Disjoint A B :=
  Finset.disjoint_left.mpr fun x h h' => hB x h' (hA x h)
theorem use_image {α : Type} {s : Finset α} {f : α → Duty} {a : ℕ} (h : ∀ x, use (f x).1.2 = a) : ∀ x ∈ s.image f, use x.1.2 = a := fun x hx => by
  obtain ⟨y, -, rfl⟩ := Finset.mem_image.mp hx; exact h y
theorem use_not {α : Type} {s : Finset α} {f : α → Duty} {a b : ℕ} (h : ∀ x, use (f x).1.2 = b) (hab : b ≠ a) : ∀ x ∈ s.image f, use x.1.2 ≠ a :=
  fun x hx => by rw [use_image h x hx]; exact hab
theorem use_or {A B : Finset Duty} {a : ℕ} (hA : ∀ x ∈ A, use x.1.2 ≠ a) (hB : ∀ x ∈ B, use x.1.2 ≠ a) : ∀ x ∈ A ∪ B, use x.1.2 ≠ a :=
  fun x hx => (Finset.mem_union.mp hx).elim (hA x) (hB x)

theorem bigSep_two {I : Type} [DecidableEq I] {s t : Finset I} (h : Disjoint s t) (Φ : I → sProp 𝕄) : bigSep (s ∪ t) Φ = iprop(bigSep s Φ ∗ bigSep t Φ) := bigSep_union h
theorem bigSep_inj {I J : Type} [DecidableEq I] [DecidableEq J] {f : I → J} (s : Finset I) (h : Function.Injective f) (Φ : J → sProp 𝕄) :
    bigSep (s.image f) Φ = bigSep s fun i => Φ (f i) := bigSep_image_of_injOn h.injOn Φ

theorem some_take {I J : Type} [DecidableEq I] [DecidableEq J] [Fintype I] {f : I → J} {s : Finset J} (hs : Finset.univ.image f ⊆ s) (h : Function.Injective f) (Φ : J → sProp 𝕄) :
    bigSep s Φ ⊢ bigSep Finset.univ fun i => Φ (f i) :=
  BIBase.Entails.trans (bigSep_subset hs) (Entails.of_eq (bigSep_inj _ h Φ))

abbrev tk (x : Duty) : sProp 𝕄 := dutyTok ER x.1 x.2.1 x.2.2

theorem meet_toks :
    bigSep dB (tk (F := F)) = bigSep Finset.univ fun c : Dev nD => bigSep (Finset.univ.filter fun k : Dev nD => 0 ≤ k.val ∧ k ≠ c) fun k => (dutyTok ER (bar k) 0 c.val : sProp 𝕄) := by
  unfold dB
  rw [bigSep_inj _ tB_inj, bigSep_filter, bigSep_univ_prod]
  exact bigSep_congr fun c _ => (bigSep_filter _ _ _).symm

/-- All the duties, device by device. -/
theorem duties_deal : bigSep (duties G) (tk (F := F)) = bigSep Finset.univ fun c : Dev nD => toks G c := by
  unfold toks duties
  rw [bigSep_two (apart (A := dB) 0 (use_image use_tB) (use_or (use_not use_tS (by decide)) (use_or (use_not use_tR (by decide)) (use_or (use_not use_t8 (by decide)) (use_or (use_not (use_t9 G) (by decide)) (use_not use_tC (by decide))))))),
    bigSep_two (apart 1 (use_image use_tS) (use_or (use_not use_tR (by decide)) (use_or (use_not use_t8 (by decide)) (use_or (use_not (use_t9 G) (by decide)) (use_not use_tC (by decide)))))),
    bigSep_two (apart 2 (use_image use_tR) (use_or (use_not use_t8 (by decide)) (use_or (use_not (use_t9 G) (by decide)) (use_not use_tC (by decide))))),
    bigSep_two (apart 12 (use_image use_t8) (use_or (use_not (use_t9 G) (by decide)) (use_not use_tC (by decide)))),
    bigSep_two (apart 13 (use_image (use_t9 G)) (use_not use_tC (by decide))),
    bigSep_inj _ tS_inj, bigSep_inj _ tR_inj, bigSep_inj _ t8_inj, bigSep_inj _ (t9_inj G), bigSep_inj _ tC_inj, meet_toks,
    bigSep_univ_prod, bigSep_univ_prod, bigSep_univ_prod, bigSep_univ_prod]
  simp only [bigSep_sep']
  rfl

/-! ## What each device may take -/

theorem sum_tally {I : Type} (s : Finset I) (f : I → GSem nD τ sig) (N : I → ℕ) (g : GSem nD τ sig) :
    (∑ i ∈ s, (tallyAt (f i) () (N i) : CellTallies nD τ sig Unit)) g () = ∑ i ∈ s, if g = f i then N i else 0 := by
  classical
  induction s using Finset.induction_on with
  | empty => rfl
  | insert a s ha ih =>
    rw [Finset.sum_insert ha, Finset.sum_insert ha, ← ih, Pi.add_apply, Finsupp.add_apply, tallyAt_apply]
    congr 1
    by_cases h : g = f a
    · rw [if_pos ⟨h, rfl⟩, if_pos h]
    · rw [if_neg (fun h' => h h'.1), if_neg h]

theorem O₀_at (d : Dev nD) (g : GSem nD τ sig) : O₀ G d g () =
    (∑ k ∈ Finset.univ.filter (fun k : Dev nD => 0 ≤ k.val ∧ k ≠ d), if g = bar k then 1 else 0)
      + ((∑ j ∈ Finset.univ.filter (fun j : Fin 4 => 0 ≤ j.val), if g = kc (prt d j) (iR j) then NB j.val else 0)
        + ∑ k ∈ Finset.univ.filter (fun k : Fin 1024 => 0 ≤ k.val), if g = kc (G.to (d, k)).1 9 then NROW else 0) := by
  unfold O₀ owB owT owR
  rw [Pi.add_apply, Pi.add_apply, Finsupp.add_apply, Finsupp.add_apply, sum_tally, sum_tally, sum_tally]

theorem owed_bar (c : Dev nD) : ∑ d : Dev nD, O₀ G d (bar c) () = 15 := by
  have h (d : Dev nD) : O₀ G d (bar c) () = if d = c then 0 else 1 := by
    rw [O₀_at, Finset.sum_eq_zero (s := Finset.univ.filter (fun j : Fin 4 => 0 ≤ j.val)) (fun j _ => if_neg (bar_ne_kc _ _ _)),
      Finset.sum_eq_zero (s := Finset.univ.filter (fun k : Fin 1024 => 0 ≤ k.val)) (fun j _ => if_neg (bar_ne_kc _ _ _)), Nat.add_zero, Nat.add_zero,
      Finset.sum_congr rfl (fun k _ => if_congr (bar_inj.eq_iff) rfl rfl), Finset.sum_ite_eq]
    by_cases e : d = c
    · rw [if_neg (by simp [e]), if_pos e]
    · rw [if_pos (by simp [Ne.symm e]), if_neg e]
  rw [Finset.sum_congr rfl fun d _ => h d]
  clear h
  revert c; decide

theorem owed_R (c : Dev nD) (j : Fin 4) : ∑ d : Dev nD, O₀ G d (kc c (iR j)) () = NB j.val := by
  have h (d : Dev nD) : O₀ G d (kc c (iR j)) () = if d = prt c j then NB j.val else 0 := by
    have hk (i : Fin 4) : (kc c (iR j) = (kc (prt d i) (iR i) : GSem nD τ sig)) ↔ (j = i ∧ d = prt c j) := by
      rw [show ((kc c (iR j) : GSem nD τ sig) = kc (prt d i) (iR i)) ↔ ((c, iR j) = (prt d i, iR i)) from kc_inj.eq_iff (a := (c, iR j)) (b := (prt d i, iR i))]
      constructor
      · intro h
        have h1 : j = i := Fin.ext (by have := congrArg (fun x => x.2.val) h; simp only at this; omega)
        have h2 : c = prt d i := congrArg Prod.fst h
        subst h1; exact ⟨rfl, by rw [h2, prt_prt]⟩
      · rintro ⟨rfl, rfl⟩; rw [prt_prt]
    rw [O₀_at, Finset.sum_eq_zero (s := Finset.univ.filter (fun k : Dev nD => 0 ≤ k.val ∧ k ≠ d)) (fun k _ => if_neg (fun e => bar_ne_kc _ _ _ e.symm)),
      Finset.sum_eq_zero (s := Finset.univ.filter (fun k : Fin 1024 => 0 ≤ k.val)) (fun k _ => if_neg (fun e => by
        have := congrArg (fun x : Dev nD × Fin 11 => x.2.val) (kc_inj (a₁ := (c, iR j)) (a₂ := ((G.to (d, k)).1, 9)) e)
        simp only [iR] at this; have : 4 + j.val = 9 := this; omega)), Nat.add_zero, Nat.zero_add,
      Finset.sum_congr rfl (fun i _ => if_congr (hk i) rfl rfl)]
    by_cases e : d = prt c j
    · rw [if_pos e, Finset.sum_congr rfl (fun i _ => if_congr (and_iff_left e) rfl rfl), Finset.sum_ite_eq, if_pos (by simp)]
    · rw [if_neg e]; exact Finset.sum_eq_zero fun i _ => if_neg fun h => e h.2
  rw [Finset.sum_congr rfl fun d _ => h d, Finset.sum_ite_eq', if_pos (Finset.mem_univ _)]

theorem owed_9 (c : Dev nD) : ∑ d : Dev nD, O₀ G d (kc c 9) () = 1024 * NROW := by
  have h (d : Dev nD) : O₀ G d (kc c 9) () = ∑ k : Fin 1024, if (G.perm (d, k)).1 = c then NROW else 0 := by
    rw [O₀_at, Finset.sum_eq_zero (s := Finset.univ.filter (fun k : Dev nD => 0 ≤ k.val ∧ k ≠ d)) (fun k _ => if_neg (fun e => bar_ne_kc _ _ _ e.symm)),
      Finset.sum_eq_zero (s := Finset.univ.filter (fun k : Fin 4 => 0 ≤ k.val)) (fun k _ => if_neg (fun e => by
        have := congrArg (fun x : Dev nD × Fin 11 => x.2.val) (kc_inj (a₁ := (c, 9)) (a₂ := (prt d k, iR k)) e)
        have : 9 = 4 + k.val := this; omega)), Nat.zero_add, Nat.zero_add,
      Finset.filter_true_of_mem (fun k _ => Nat.zero_le _)]
    refine Finset.sum_congr rfl fun k _ => if_congr ?_ rfl rfl
    rw [show ((kc c 9 : GSem nD τ sig) = kc (G.to (d, k)).1 9) ↔ ((c, (9 : Fin 11)) = ((G.to (d, k)).1, 9)) from kc_inj.eq_iff (a := (c, 9)) (b := ((G.to (d, k)).1, 9))]
    rw [G.perm_apply]
    exact ⟨fun h => (congrArg Prod.fst h).symm, fun h => by rw [h]⟩
  rw [Finset.sum_congr rfl fun d _ => h d, ← Fintype.sum_prod_type' (f := fun d k => if (G.perm (d, k)).1 = c then NROW else 0),
    show (∑ x : Dev nD × Fin 1024, if (G.perm (x.1, x.2)).1 = c then NROW else 0) = ∑ x : Dev nD × Fin 1024, if x.1 = c then NROW else 0 from
      Equiv.sum_comp G.perm (fun x : Dev nD × Fin 1024 => if x.1 = c then NROW else 0), Fintype.sum_prod_type, Finset.sum_comm]
  have h1 (k : Fin 1024) : (∑ x : Dev nD, if (x, k).1 = c then NROW else 0) = NROW := by
    rw [show (∑ x : Dev nD, if (x, k).1 = c then NROW else 0) = ∑ x : Dev nD, if x = c then NROW else 0 from rfl, Finset.sum_ite_eq', if_pos (Finset.mem_univ _)]
  rw [Finset.sum_congr rfl (fun k _ => h1 k), Finset.sum_const, Finset.card_univ, Fintype.card_fin, smul_eq_mul]

theorem may_take {c : Dev nD} {sm : SemLoc sig} {N : ℕ} (h : ∑ d : Dev nD, O₀ G d ((c : Thread nD τ), sm) () = N) :
    tallyOn ((c : Thread nD τ), sm) (launchCredit (Pipeline.owing (O₀ G)) 0 ((c : Thread nD τ), sm)) = (tallyAt ((c : Thread nD τ), sm) () N : CellTallies nD τ sig Unit) := by
  unfold tallyAt; refine congrArg _ (Finsupp.ext fun u => ?_); cases u
  rw [Pipeline.launchCredit_owing, Finsupp.single_eq_same, h]

set_option maxRecDepth 20000 in
theorem take_9 (c : Dev nD) :
    tallyOn (kc c 9) (launchCredit (Pipeline.owing (O₀ G)) 0 (kc c 9)) = (tallyAt (kc c 9) () (1024 * NROW) : CellTallies nD τ sig Unit) := by
  have h := owed_9 G c
  generalize 1024 * NROW = N at h
  exact may_take G (c := c) (sm := SemLoc.dma (own 9)) h

set_option maxRecDepth 20000 in
theorem creds_of_launch (c : Dev nD) : (Pipeline.launchCred (O₀ G) c : sProp 𝕄) ⊢ creds c := by
  have h9 : (SemLoc.dma (own 9) : SemLoc sig) ∈ Finset.univ.erase (SemLoc.reg barS) := Finset.mem_erase.mpr ⟨(fun h => nomatch h), Finset.mem_univ _⟩
  have hR : (Finset.univ.image fun j : Fin 4 => (SemLoc.dma (own (iR j)) : SemLoc sig)) ⊆ (Finset.univ.erase (SemLoc.reg barS)).erase (SemLoc.dma (own 9)) := fun x hx => by
    obtain ⟨j, -, rfl⟩ := Finset.mem_image.mp hx
    refine Finset.mem_erase.mpr ⟨fun h => ?_, Finset.mem_erase.mpr ⟨(fun h => nomatch h), Finset.mem_univ _⟩⟩
    have h1 : own (iR j) = own 9 := by injection h
    have h2 : 4 + (4 + j.val) = 4 + 9 := congrArg Fin.val h1
    omega
  have hinj : Function.Injective fun j : Fin 4 => (SemLoc.dma (own (iR j)) : SemLoc sig) := fun a b h => by
    have h1 : own (iR a) = own (iR b) := by injection h
    have h2 : 4 + (4 + a.val) = 4 + (4 + b.val) := congrArg Fin.val h1
    exact Fin.ext (by omega)
  unfold Pipeline.launchCred creds
  rw [bigSep_take (i := SemLoc.reg barS) (Finset.mem_univ _), bigSep_take h9, may_take G (owed_bar G c), take_9 G c]
  iintro ⟨Hb, H9, H⟩
  ihave H2 := (some_take hR hinj _) $$ H
  isplitl [Hb]; · iexact Hb
  isplitl [H2]
  · have h : (bigSep Finset.univ fun j : Fin 4 => cred (tallyOn ((c : Thread nD τ), SemLoc.dma (own (iR j))) (launchCredit (Pipeline.owing (O₀ G)) 0 ((c : Thread nD τ), SemLoc.dma (own (iR j))))))
        ⊢ (bigSep Finset.univ fun j : Fin 4 => cred (tallyAt (kc c (iR j)) () (NB j.val)) : sProp 𝕄) := bigSep_each fun j => by
      rw [may_take G (owed_R G c j)]
    iapply h; iexact H2
  iexact H9

end Cells

end Cert.Route

end
-- ==== Proof.Run.lean ====
/-
The run of the whole program: what memory holds at the end.
-/
module

public import proofs.«01_k».proof.Proof.Start
public import Idealize.ShloMosaic.Lib.Quiescent

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (G : (dat m).Good)

/-! ## The segments -/

abbrev ops₀ : List (HloOp τ sig (Elt F)) := List.flatten [hostOps0, hostOps0_1, hostOps0_2]

theorem ops₀_mem (P : HloOp τ sig (Elt F) → Prop) (h0 : (hostOps0 : List (HloOp τ sig (Elt F))).Forall P)
    (h1 : (hostOps0_1 : List (HloOp τ sig (Elt F))).Forall P) (h2 : (hostOps0_2 : List (HloOp τ sig (Elt F))).Forall P) : ∀ op ∈ (ops₀ : List (HloOp τ sig (Elt F))), P op := fun op h => by
  obtain ⟨l, hl, ho⟩ := List.mem_flatten.mp h
  simp only [List.mem_cons, List.mem_nil_iff, or_false] at hl
  rcases hl with rfl | rfl | rfl
  · exact (List.forall_iff_forall_mem.mp h0) op ho
  · exact (List.forall_iff_forall_mem.mp h1) op ho
  · exact (List.forall_iff_forall_mem.mp h2) op ho

theorem ops₀_sub : ∀ op ∈ (ops₀ : List (HloOp τ sig (Elt F))), op.bufs ⊆ Pipeline.ucRefs τ sig := fun op h =>
  Pipeline.sub_ucRefs op (ops₀_mem (fun op => op.bufs ⊆ StableHlo.tcRefs τ sig) hostOps0_sub hostOps0_1_sub hostOps0_2_sub op h)
theorem ops₀_fresh : ∀ op ∈ (ops₀ : List (HloOp τ sig (Elt F))), op.fresh = ∅ :=
  ops₀_mem _ hostOps0_fresh hostOps0_1_fresh hostOps0_2_fresh
theorem ops₁_sub : ∀ op ∈ (hostOps1 : List (HloOp τ sig (Elt F))), op.bufs ⊆ Pipeline.ucRefs τ sig := fun op h =>
  Pipeline.sub_ucRefs op ((List.forall_iff_forall_mem.mp hostOps1_sub) op h)
theorem ops₁_fresh : ∀ op ∈ (hostOps1 : List (HloOp τ sig (Elt F))), op.fresh = ∅ := List.forall_iff_forall_mem.mp hostOps1_fresh

def pre : Pipeline.HostSeg (Name := ℕ) (U := UU) (pcfgs (F := F)) defs₀ 𝒱₀ L lv :=
  Pipeline.HostSeg.ofOps _ _ _ _ _ (Pipeline.ucRefs τ sig) ops₀ ops₀_sub ops₀_fresh (fun c b => m (c, b)) (ride m G)
def post : Pipeline.HostSeg (Name := ℕ) (U := UU) (pcfgs (F := F)) defs₀ 𝒱₀ L lv :=
  Pipeline.HostSeg.ofOps _ _ _ _ _ (Pipeline.ucRefs τ sig) hostOps1 ops₁_sub ops₁_fresh (V1 m G) rode

def segs : List (Pipeline.Seg (pcfgs (F := F)) adm (pdats m G) () defs₀ 𝒱₀ L lv) :=
  [.host (pre m G), .region (kern m G), .host (post m G)]

theorem main_eq (c : Dev nD) : main (F := F) c = Pipeline.Seg.run (segs m G) := by
  rw [main_chain c, Pipeline.Seg.run_eq_chain]
  exact StableHlo.chain_map_seq_append [hostOps0, hostOps0_1, hostOps0_2] [Prog.lift (.customCall (Pipeline.entry 0) ()), StableHlo.seq hostOps1]

/-! ## The launch -/

def u₀ : UU :=
  (initOf (Pipeline.cells (Pipeline.pin (pcfgs (F := F)) adm) cellOf_inj) (Pipeline.launchToks (Pipeline.pin (pcfgs (F := F)) adm) cellOf_inj),
    launchOf live shut (duties G))

/-- The protocol's part of the launch, kept on the first device until it is dealt. -/
def part (c : Dev nD) : sProp 𝕄 := if c = 0 then BI.own (ER (launchOf live shut (duties G))) else iprop(emp)

theorem parts : bigSep Finset.univ (part m G) = (BI.own (ER (launchOf live shut (duties G))) : sProp 𝕄) :=
  bigSep_at (0 : Dev nD) (fun _ => BI.own (ER (launchOf live shut (duties G))))

theorem unscoped_bar : ∀ sm : SemLoc sig, sm.isScoped .tc = false → sm = .reg barS := by decide

theorem unscoped_eq (c : Dev nD) : (unscopedSems0 c : sProp 𝕄) = semVal (bar c) 0 := by
  unfold unscopedSems0
  rw [show (Finset.univ.filter fun sm : SemLoc sig => ¬ sm.isScoped .tc) = {SemLoc.reg barS} from by decide, bigSep_singleton]

/-- The first thread state. -/
def T₀ (c : Dev nD) : sProp 𝕄 := iprop(StableHlo.held (c : Thread nD τ) (Pipeline.ucRefs τ sig) (fun b => m (c, b)) ∗ ride m G c)
/-- The last. -/
def Tₙ (c : Dev nD) : sProp 𝕄 := iprop(StableHlo.held (c : Thread nD τ) (Pipeline.ucRefs τ sig) (StableHlo.after hostOps1 (V1 m G c)) ∗ semVal (bar c) 0)

/-- From everything opened at once to each device's own. -/
theorem deal (κ : GSem nD τ sig → ℕ) :
    iprop(env G κ ∗ ((bigSep Finset.univ fun c : Dev nD => StableHlo.held (c : Thread nD τ) (Pipeline.ucRefs τ sig) (fun b => m (c, b)))
      ∗ (bigSep Finset.univ fun c : Dev nD => atPos ER (bar c) 0 ∅ 0) ∗ (bigSep Finset.univ fun c : Dev nD => bigSep Finset.univ fun i : Fin 11 => openTok ER (kc c i))
      ∗ (bigSep Finset.univ fun c : Dev nD => toks G c) ∗ (bigSep Finset.univ fun c : Dev nD => creds c)
      ∗ (bigSep Finset.univ fun c : Dev nD => owes (c : Thread nD τ) (O₀ G c) ∅)))
      ⊢ (bigSep Finset.univ (T₀ m G) : sProp 𝕄) := by
  simp only [← bigSep_sep']
  refine bigSep_with_persistent fun c _ => ?_
  unfold T₀ ride
  iintro ⟨#HE, Hh, Hp, Ho, Ht, Hc, HO⟩
  isplitl [Hh]; · iexact Hh
  isplitr; · iexists κ; iexact HE
  isplitl [Hp]; · iexact Hp
  isplitl [Ho]; · iexact Ho
  isplitl [Ht]; · iexact Ht
  isplitl [Hc]; · iexact Hc
  iexists _; iexact HO

theorem held_eq (c : Dev nD) : (unscopedBufs c (fun b => m ((c : Thread nD τ).loc b)) : sProp 𝕄)
    = StableHlo.held (c : Thread nD τ) (Pipeline.ucRefs τ sig) (fun b => m (c, b)) :=
  Pipeline.unscopedBufs_held c (fun b => m (c, b))

theorem init :
    iprop((bigSep Finset.univ fun c : Dev nD => iprop(unscopedBufs c (fun b => m ((c : Thread nD τ).loc b)) ∗ unscopedSems0 c
          ∗ owes (c : Thread nD τ) (O₀ G c) ∅ ∗ Pipeline.launchCred (O₀ G) c ∗ prngReg c (ρ c) ∗ part m G c)) ∗ levAts L lv)
      ⊢ (|={Set.univ}=> bigSep Finset.univ (T₀ m G) : sProp 𝕄) := by
  simp only [bigSep_sep', held_eq, unscoped_eq]
  rw [parts]
  have hB : bigSep live (fun g => (semVal g 0 : sProp 𝕄)) = bigSep Finset.univ fun c : Dev nD => semVal (bar c) 0 := bigSep_inj _ bar_inj _
  have hR : bigSep live (fun g => (reached ER g 0 : sProp 𝕄)) = bigSep Finset.univ fun c : Dev nD => reached ER (bar c) 0 := bigSep_inj _ bar_inj _
  have hP : bigSep live (fun g => (atPos ER g 0 ∅ 0 : sProp 𝕄)) = bigSep Finset.univ fun c : Dev nD => atPos ER (bar c) 0 ∅ 0 := bigSep_inj _ bar_inj _
  have hO : bigSep shut (fun g => (openTok ER g : sProp 𝕄)) = bigSep Finset.univ fun c : Dev nD => bigSep Finset.univ fun i : Fin 11 => openTok ER (kc c i) :=
    (bigSep_inj _ kc_inj _).trans (bigSep_univ_prod _)
  have hI (κ : GSem nD τ sig → ℕ) : bigSep (live ∪ shut) (fun g => (cellInv ER (Rd G) (κ g) g : sProp 𝕄))
      = iprop((bigSep Finset.univ fun e : Dev nD => cellInv ER (Rd G) (κ (bar e)) (bar e)) ∗ bigSep Finset.univ fun ei : Dev nD × Fin 11 => cellInv ER (Rd G) (κ (kc ei.1 ei.2)) (kc ei.1 ei.2)) := by
    rw [bigSep_two live_shut]
    exact congrArg₂ _ (bigSep_inj _ bar_inj _) (bigSep_inj _ kc_inj _)
  have hF := Rounds.fund_launch (Es := Set.univ) ER (Rd G) live_shut (fun g _ h => h) (duties G)
  rw [hB, hR, hP, hO, duties_deal] at hF
  have hC : (bigSep Finset.univ fun c : Dev nD => Pipeline.launchCred (O₀ G) c) ⊢ (bigSep Finset.univ fun c : Dev nD => creds c : sProp 𝕄) :=
    bigSep_each fun c => creds_of_launch G c
  iintro ⟨⟨Hh, Hs, HO, Hc, -, Hp⟩, #HL⟩
  imod hF $$ [Hs Hp] with ⟨%κ, -, HI, #HR, HP, Hot, Ht⟩
  · isplitl [Hs] <;> iassumption
  ihave HI2 := (Entails.of_eq (hI κ)) $$ HI
  icases HI2 with ⟨#HI1, #HI2⟩
  ihave Hc2 := hC $$ Hc
  imodintro
  iapply (deal m G κ)
  isplitr
  · unfold env
    isplitr; · iexact HI1
    isplitr; · iexact HI2
    isplitr; · iexact HR
    iexact HL
  isplitl [Hh]; · iexact Hh
  isplitl [HP]; · iexact HP
  isplitl [Hot]; · iexact Hot
  isplitl [Ht]; · iexact Ht
  isplitl [Hc2]; · iexact Hc2
  iexact HO

/-! ## The run -/

/-- What memory holds on device `c` at the end. -/
def ends (c : Dev nD) (s : MemSt nD τ sig (Elt F)) : Prop :=
  (∀ b ∈ Pipeline.ucRefs τ sig, s.mem (c, b) = StableHlo.after hostOps1 (V1 m G c) b) ∧ s.sem (bar c) = 0

theorem read_end (c : Dev nD) (s' : Phys nD τ sig (Elt F)) : iprop(Tₙ m G c ∗ SI s') ⊢ (|={Set.univ}=> iprop(⌜ends m G c s'.mem⌝ ∗ SI s') : sProp 𝕄) := by
  unfold Tₙ ends StableHlo.held
  iintro ⟨⟨Hh, Hb⟩, HSI⟩
  icombine HSI Hb gives %hb
  ihave Hr := (pointsTo_read_all (Pipeline.ucRefs τ sig) (fun b => ((c : Thread nD τ).1, b)) (fun b => StableHlo.after hostOps1 (V1 m G c) b) s') $$ [Hh HSI]
  · isplitl [Hh]; · iexact Hh
    iexact HSI
  icases Hr with ⟨%hr, HSI⟩
  imodintro
  isplitr
  · ipureintro; exact ⟨hr, by simpa using hb⟩
  iexact HSI

set_option backward.isDefEq.respectTransparency.types false in
theorem run_main :
    θ_run (defs (F := F)) (onTc (τ := τ) (main (F := F))) ⟨m, fun _ => 0, ρ⟩ fun r =>
      (∀ c : Dev nD, ∀ b ∈ Pipeline.ucRefs τ sig, r.2.mem (c, b) = StableHlo.after hostOps1 (V1 m G c) b) ∧ r.2.sem = fun _ => 0 :=
  Pipeline.θ_run_regions_kit_sems pcfgs adm (pdats m G) () cellOf_inj EP defs₀ 𝒱₀ L lv m ρ main (segs m G)
    (fun c Q => by rw [main_eq m G c])
    (by simp only [segs, Pipeline.Seg.pipes_host, Pipeline.Seg.pipes_region, Pipeline.Seg.pipes_nil]; decide)
    (O₀ := O₀ G) (hL := L_of_ne) (G := part m G) (u₀ := u₀ m G)
    (hu₀ := by
      unfold u₀
      iintro Hu
      ihave H := (ownU_pair _ _) $$ Hu
      icases H with ⟨HP, HX⟩
      imodintro
      isplitl [HP]; · iexact HP
      rw [parts]; iexact HX)
    (T₀ := T₀ m G) (Tₙ := Tₙ m G)
    (hch := ⟨fun c => .rfl, fun c => .rfl, fun c => .rfl, fun c => by
      show iprop(StableHlo.held (c : Thread nD τ) (Pipeline.ucRefs τ sig) (StableHlo.after hostOps1 (V1 m G c)) ∗ rode c) ⊢ _
      unfold Tₙ rode
      iintro ⟨H, Hb, HO⟩
      isplitr [HO]
      · isplitl [H] <;> iassumption
      iexact HO⟩)
    (hinit := init m ρ G)
    (QY := ends m G) (hfin := read_end m G)
    (hQ := fun s h hs => ⟨fun c => (h c).1, sem_eq_zero hs fun c sm hsm => by obtain rfl := unscoped_bar sm hsm; exact (h c).2⟩)

end Cert.Route

end
-- ==== Proof.Host.lean ====
/-
What the operations before the kernel compute from a device's destinations — the one-hot table, its running sums, the
ranks, the counts and the table of counts the devices exchange — and the contents they, and the two operations after the
kernel, leave in the buffers.
-/
module

public import proofs.«01_k».proof.Proof.Sched
public import Idealize.ShloMosaic.Lib.StableHlo.Run

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

/-- Entry `(k, d)` is one where row `k` goes to device `d`, zero elsewhere. -/
def hot (a : IVec S1024 32) : IVec S1024x16 32 :=
  extui 32 (cmpi .eq (broadcastInDim S1024x16 ![0, 1] bcast_S1024x1_S1024x16_0_1 (broadcastInDim S1024x1 ![0] bcast_S1024_S1024x1_0 a))
    (broadcastInDim S1024x16 ![0, 1] bcast_S1x16_S1024x16_0_1 (broadcastInDim S1x16 ![1] bcast_S16_S1x16_1 (iotaInDim S16 32 0)))) natLt_1_32

/-- The running sums down the columns. -/
def runs (a : IVec S1024 32) : IVec S1024x16 32 :=
  Host.reduceWindow IntOp.addi ![1024, 1] ![1, 1] ![1023, 0] ![0, 0] (hot a) (broadcastInDim S_ ![] bcast_S_S_ (constantI S_ 32 0#32))
    reduceWindows_S1024x16_S1024x16_w1024s1p1023_0_w1s1p0_0 h_S_

/-- Each row's rank among the earlier rows with the same destination. -/
def ranks (a : IVec S1024 32) : IVec S1024 32 :=
  Host.reduce IntOp.addi (muli (subi (runs a) (hot a)) (hot a)) (constantI S_ 32 0#32) reducesTo_S1024x16_S1024_d1 h_S_

/-- How many rows go to each device. -/
def counts (a : IVec S1024 32) : IVec S16 32 :=
  Host.reduce IntOp.addi (hot a) (constantI S_ 32 0#32) reducesTo_S1024x16_S16_d0 h_S_

/-- The counts at the head of the first row of a table of zeros. -/
def table (a : IVec S1024 32) : IVec S8x128 32 :=
  Host.scatter scatter_S8x128_S2_S16_0_0_01_0 (fun _ b => b) (broadcastInDim S8x128 ![] bcast_S_S8x128 (constantI S_ 32 0#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) (counts a)

/-! ## Where the operations leave them -/

section Reads
variable (W : Valuation τ sig (Elt F))

theorem read_table : StableHlo.after (List.flatten [hostOps0, hostOps0_1, hostOps0_2]) W (Proc.devRef .tc main_v17)
    = (table (W (Proc.devRef .tc main_arg1)) : IVec S8x128 32) := by
  simp only [List.flatten_cons, List.flatten_nil, List.append_nil, List.cons_append, List.nil_append]
  after_results_simp
  rfl

theorem read_dest : StableHlo.after (List.flatten [hostOps0, hostOps0_1, hostOps0_2]) W (Proc.devRef .tc main_v18)
    = (shapeCast S8x128 (W (Proc.devRef .tc main_arg1) : IVec S1024 32) shapeCasts_S1024_S8x128 : IVec S8x128 32) := by
  simp only [List.flatten_cons, List.flatten_nil, List.append_nil, List.cons_append, List.nil_append]
  after_results_simp
  rfl

theorem read_rank : StableHlo.after (List.flatten [hostOps0, hostOps0_1, hostOps0_2]) W (Proc.devRef .tc main_v19)
    = (shapeCast S8x128 (ranks (W (Proc.devRef .tc main_arg1))) shapeCasts_S1024_S8x128 : IVec S8x128 32) := by
  simp only [List.flatten_cons, List.flatten_nil, List.append_nil, List.cons_append, List.nil_append]
  after_results_simp
  simp only [StableHlo.TRef.toBuf, StableHlo.TRef.ofBuf, cast_eq]
  rfl

theorem read_x : StableHlo.after (List.flatten [hostOps0, hostOps0_1, hostOps0_2]) W (Proc.devRef .tc main_v20)
    = (shapeCast S1024x4x128 (W (Proc.devRef .tc main_arg0) : FVec F S1024x512 .bf16) shapeCasts_S1024x512_S1024x4x128 : FVec F S1024x4x128 .bf16) := by
  simp only [List.flatten_cons, List.flatten_nil, List.append_nil, List.cons_append, List.nil_append]
  after_results_simp
  rfl

theorem read_out : StableHlo.after hostOps1 W (Proc.devRef .tc main_v23)
    = (extf .f32 (shapeCast S1024x512 (W (Proc.devRef .tc main_v21) : FVec F S1024x4x128 .bf16) shapeCasts_S1024x4x128_S1024x512) bitsLt_bf16_f32
        : FVec F S1024x512 .f32) := by
  after_results_simp
  rfl

end Reads

end Cert.Route

end
-- ==== Proof.Sums.lean ====
/-
The host's integer sums over a matrix, read at an entry: along the columns and along the rows, each the sum of words over
the axis taken away.
-/
module

public import Idealize.ShloMosaic.Lib.WordSum
public import Idealize.ShloMosaic.Lib.Routing.OpsOne

@[expose] public section

namespace Cert.Route

open Idealize.ShloMosaic Idealize.ShloMosaic.Routing Idealize.ShloMosaic.ValueIdx

/-- A fold of word addition from zero is the sum. -/
theorem fold_addi_eq_sum {ι : Type} (S : Finset ι) (f : ι → BitVec 32) : S.fold IntOp.addi 0#32 f = ∑ i ∈ S, f i := by
  induction S using Finset.cons_induction with
  | empty => rfl
  | cons a S ha ih =>
    rw [Finset.fold_cons, Finset.sum_cons, ih]
    rfl

/-- The sum over the second axis of a matrix, at row `p`. -/
theorem reduce_cols {n m : ℕ} (x : IVec (shape2 n m) 32) (init : IVec shape0 32) (hinit : init ix0 = 0#32)
    (h : (shape2 n m).ReducesTo [1] (shape1 n)) (hu : 0 < shape0.numel) (p : Fin n) :
    Host.reduce IntOp.addi x init h hu (ix1 p) = ∑ q : Fin m, x (ix2 p q) := by
  classical
  rw [Host.reduce_eq_fold, (congrArg init (eq_ix0 _)).trans hinit, fold_addi_eq_sum]
  have hdrop : ∀ i : (shape2 n m).Idx, h.drop i = ix1 p ↔ i 0 = p := by
    intro i
    have hv : (h.drop i 0 : ℕ) = i 0 := Shape.ReducesTo.drop_apply_val h i 0
    constructor
    · intro e
      rw [e] at hv
      exact Fin.ext hv.symm
    · intro e
      funext c
      match c with
      | ⟨0, _⟩ => exact Fin.ext (hv.trans (congrArg Fin.val e))
  refine Finset.sum_bij' (fun i _ => i 1) (fun q _ => ix2 p q) (fun _ _ => Finset.mem_univ _)
    (fun q _ => Finset.mem_filter.2 ⟨Finset.mem_univ _, (hdrop _).2 rfl⟩) (fun i hi => ?_) (fun _ _ => rfl) (fun i hi => ?_)
  · have e := (hdrop i).1 (Finset.mem_filter.1 hi).2
    exact (congrArg (fun t => ix2 t (i 1)) e.symm).trans (eq_ix2 i).symm
  · have e := (hdrop i).1 (Finset.mem_filter.1 hi).2
    exact congrArg x ((eq_ix2 i).trans (congrArg (fun t => ix2 t (i 1)) e))

/-- The sum over the first axis of a matrix, at column `q`. -/
theorem reduce_rows {n m : ℕ} (x : IVec (shape2 n m) 32) (init : IVec shape0 32) (hinit : init ix0 = 0#32)
    (h : (shape2 n m).ReducesTo [0] (shape1 m)) (hu : 0 < shape0.numel) (q : Fin m) :
    Host.reduce IntOp.addi x init h hu (ix1 q) = ∑ p : Fin n, x (ix2 p q) := by
  classical
  rw [Host.reduce_eq_fold, (congrArg init (eq_ix0 _)).trans hinit, fold_addi_eq_sum]
  have hdrop : ∀ i : (shape2 n m).Idx, h.drop i = ix1 q ↔ i 1 = q := by
    intro i
    have hv : (h.drop i 0 : ℕ) = i 1 := Shape.ReducesTo.drop_apply_val h i 0
    constructor
    · intro e
      rw [e] at hv
      exact Fin.ext hv.symm
    · intro e
      funext c
      match c with
      | ⟨0, _⟩ => exact Fin.ext (hv.trans (congrArg Fin.val e))
  refine Finset.sum_bij' (fun i _ => i 0) (fun p _ => ix2 p q) (fun _ _ => Finset.mem_univ _)
    (fun p _ => Finset.mem_filter.2 ⟨Finset.mem_univ _, (hdrop _).2 rfl⟩) (fun i hi => ?_) (fun _ _ => rfl) (fun i hi => ?_)
  · have e := (hdrop i).1 (Finset.mem_filter.1 hi).2
    exact (congrArg (fun t => ix2 (i 0) t) e.symm).trans (eq_ix2 i).symm
  · have e := (hdrop i).1 (Finset.mem_filter.1 hi).2
    exact congrArg x ((eq_ix2 i).trans (congrArg (fun t => ix2 (i 0) t) e))

/-- The sum over the first axis of a matrix, taken by a vector reduction from zero, at column `q`. -/
theorem lanes_sum {n m : ℕ} (x : IVec (shape2 n m) 32) (h : (shape2 n m).Reduces [0] (shape1 m))
    (hacc : (0#32 : BitVec 32) = IKind.add.neutral) (q : Fin m) :
    multiReductionI .add [0] (shape1 m) x 0#32 h hacc (ix1 q) = ∑ p : Fin n, x (ix2 p q) := by
  classical
  rw [multiReductionI_eq_fold]
  refine (fold_addi_eq_sum _ x).trans ?_
  have hdrop : ∀ i : (shape2 n m).Idx, h.drop i = ix1 q ↔ i 1 = q := by
    intro i
    have hv : (h.drop i 0 : ℕ) = i 1 := Shape.ReducesTo.drop_apply_val h.reducesTo i 0
    constructor
    · intro e
      rw [e] at hv
      exact Fin.ext hv.symm
    · intro e
      funext c
      match c with
      | ⟨0, _⟩ => exact Fin.ext (hv.trans (congrArg Fin.val e))
  refine Finset.sum_bij' (fun i _ => i 0) (fun p _ => ix2 p q) (fun _ _ => Finset.mem_univ _)
    (fun p _ => Finset.mem_filter.2 ⟨Finset.mem_univ _, (hdrop _).2 rfl⟩) (fun i hi => ?_) (fun _ _ => rfl) (fun i hi => ?_)
  · have e := (hdrop i).1 (Finset.mem_filter.1 hi).2
    exact (congrArg (fun t => ix2 (i 0) t) e.symm).trans (eq_ix2 i).symm
  · have e := (hdrop i).1 (Finset.mem_filter.1 hi).2
    exact congrArg x ((eq_ix2 i).trans (congrArg (fun t => ix2 (i 0) t) e))

/-- A sum of ones over the places where a condition holds is the word of their number. -/
theorem sum_ones {ι : Type} [Fintype ι] (P : ι → Prop) [DecidablePred P] :
    (∑ i : ι, if P i then (1#32 : BitVec 32) else 0#32) = BitVec.ofNat 32 (Finset.univ.filter P).card := by
  classical
  have h : ∀ S : Finset ι, (∑ i ∈ S, if P i then (1#32 : BitVec 32) else 0#32) = BitVec.ofNat 32 (S.filter P).card := by
    intro S
    induction S using Finset.cons_induction with
    | empty => rfl
    | cons a S ha ih =>
      rw [Finset.sum_cons, ih, Finset.filter_cons]
      by_cases hp : P a
      · rw [if_pos hp, if_pos hp, Finset.card_cons, Nat.add_comm, BitVec.ofNat_add]
      · rw [if_neg hp, if_neg hp]
        exact BitVec.zero_add _
  exact h _

end Cert.Route
-- ==== Proof.Count.lean ====
/-
Counting, with no program in it. A device holds 1024 words, each the destination of one row. If 64 of them are each of
the words 0 … 15 then every word is one of these; a row's rank among the earlier rows with the same destination is below
64; and a row's place, which is 64 times its device's number plus its rank, tells rows with one destination apart.
-/
module

public import Idealize.ShloMosaic.Lib.WordSum
public import Mathlib.Data.Fintype.BigOperators

@[expose] public section

namespace Cert.Route

/-- Each of the words 0 … 15 stands 64 times among a device's 1024. -/
def Even (a : Fin 1024 → BitVec 32) : Prop :=
  ∀ d : Fin 16, (Finset.univ.filter fun k => a k = BitVec.ofNat 32 d.val).card = 64

/-- How many of the earlier rows have the same destination. -/
def rankN (a : Fin 1024 → BitVec 32) (k : Fin 1024) : ℕ := (Finset.univ.filter fun j => j < k ∧ a j = a k).card

/-- Different numbers below 16 are different words. -/
theorem word_inj {d e : Fin 16} (h : BitVec.ofNat 32 d.val = BitVec.ofNat 32 e.val) : d = e := by
  have h' := congrArg BitVec.toNat h
  rw [BitVec.toNat_ofNat, BitVec.toNat_ofNat] at h'
  exact Fin.ext (by omega)

/-- Every word is the number of a device. -/
theorem Even.is_dev {a : Fin 1024 → BitVec 32} (h : Even a) (k : Fin 1024) : ∃ d : Fin 16, a k = BitVec.ofNat 32 d.val := by
  classical
  have hdis : ∀ d ∈ (Finset.univ : Finset (Fin 16)), ∀ e ∈ (Finset.univ : Finset (Fin 16)), d ≠ e →
      Disjoint (Finset.univ.filter fun k => a k = BitVec.ofNat 32 d.val) (Finset.univ.filter fun k => a k = BitVec.ofNat 32 e.val) := by
    intro d _ e _ hne
    rw [Finset.disjoint_left]
    intro j hj hj'
    exact hne (word_inj ((Finset.mem_filter.1 hj).2.symm.trans (Finset.mem_filter.1 hj').2))
  have hcard : ((Finset.univ : Finset (Fin 16)).biUnion fun d => Finset.univ.filter fun k => a k = BitVec.ofNat 32 d.val).card = 1024 := by
    rw [Finset.card_biUnion hdis, Finset.sum_congr rfl fun d _ => h d]
    rfl
  have hall : ((Finset.univ : Finset (Fin 16)).biUnion fun d => Finset.univ.filter fun k => a k = BitVec.ofNat 32 d.val) = Finset.univ :=
    Finset.eq_univ_of_card _ (by rw [hcard, Fintype.card_fin])
  have hk := Finset.mem_univ k
  rw [← hall] at hk
  obtain ⟨d, _, hd⟩ := Finset.mem_biUnion.1 hk
  exact ⟨d, (Finset.mem_filter.1 hd).2⟩

/-- So, read as a number, it is below 16. -/
theorem Even.lt {a : Fin 1024 → BitVec 32} (h : Even a) (k : Fin 1024) : (a k).toNat < 16 := by
  obtain ⟨d, hd⟩ := h.is_dev k
  rw [hd, BitVec.toNat_ofNat]
  have := d.isLt
  omega

/-- A rank is below 64: the row itself is not among those counted. -/
theorem Even.rankN_lt {a : Fin 1024 → BitVec 32} (h : Even a) (k : Fin 1024) : rankN a k < 64 := by
  obtain ⟨d, hd⟩ := h.is_dev k
  rw [← h d]
  refine Finset.card_lt_card (Finset.ssubset_iff_subset_ne.2 ⟨fun j hj => ?_, fun e => ?_⟩)
  · exact Finset.mem_filter.2 ⟨Finset.mem_univ _, (Finset.mem_filter.1 hj).2.2.trans hd⟩
  · have hk : k ∈ Finset.univ.filter fun j => a j = BitVec.ofNat 32 d.val := Finset.mem_filter.2 ⟨Finset.mem_univ _, hd⟩
    rw [← e] at hk
    exact absurd (Finset.mem_filter.1 hk).2.1 (lt_irrefl k)

/-- Of two rows with one destination the later has the greater rank. -/
theorem rankN_lt_of_lt {a : Fin 1024 → BitVec 32} {j k : Fin 1024} (hjk : j < k) (e : a j = a k) : rankN a j < rankN a k := by
  refine Finset.card_lt_card (Finset.ssubset_iff_subset_ne.2 ⟨fun i hi => ?_, fun q => ?_⟩)
  · obtain ⟨h1, h2⟩ := (Finset.mem_filter.1 hi).2
    exact Finset.mem_filter.2 ⟨Finset.mem_univ _, h1.trans hjk, h2.trans e⟩
  · have hj : j ∈ Finset.univ.filter fun i => i < k ∧ a i = a k := Finset.mem_filter.2 ⟨Finset.mem_univ _, hjk, e⟩
    rw [← q] at hj
    exact absurd (Finset.mem_filter.1 hj).2.1 (lt_irrefl j)

/-- And the row with the lesser rank is the earlier. -/
theorem lt_of_rankN_lt {a : Fin 1024 → BitVec 32} {j k : Fin 1024} (e : a j = a k) (h : rankN a j < rankN a k) : j < k := by
  rcases lt_trichotomy j k with q | q | q
  · exact q
  · subst q
    exact absurd h (lt_irrefl _)
  · exact absurd h (not_lt.2 (rankN_lt_of_lt q e.symm).le)

/-- Rows with one destination and one rank are one row. -/
theorem eq_of_rankN_eq {a : Fin 1024 → BitVec 32} {j k : Fin 1024} (e : a j = a k) (h : rankN a j = rankN a k) : j = k := by
  rcases lt_trichotomy j k with q | q | q
  · exact absurd h (rankN_lt_of_lt q e).ne
  · exact q
  · exact absurd h (rankN_lt_of_lt q e.symm).ne'

end Cert.Route
-- ==== Proof.HostVals.lean ====
/-
The host's values, entry by entry, where every device number stands 64 times among the destinations: the counts are all
64, the table of counts holds them, and each row's rank is the number of earlier rows with its destination.
-/
module

public import proofs.«01_k».proof.Proof.Host
public import proofs.«01_k».proof.Proof.Sums
public import proofs.«01_k».proof.Proof.Count

@[expose] public section

noncomputable section

namespace Cert.Route

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Routing Idealize.ShloMosaic.ValueIdx

/-- A device's destinations, listed by row. -/
def dests (a : IVec S1024 32) (k : Fin 1024) : BitVec 32 := a (ix1 k)

theorem hot_apply (a : IVec S1024 32) (k : Fin 1024) (d : Fin 16) :
    hot a (ix2 k d) = if dests a k = BitVec.ofNat 32 d.val then 1#32 else 0#32 := by
  have e1 : broadcastInDim S1024x16 ![0, 1] bcast_S1024x1_S1024x16_0_1 (broadcastInDim S1024x1 ![0] bcast_S1024_S1024x1_0 a) (ix2 k d) = a (ix1 k) := by
    refine congrArg a (funext fun b => ?_)
    match b with
    | ⟨0, _⟩ => rfl
  have e2 : broadcastInDim S1024x16 ![0, 1] bcast_S1x16_S1024x16_0_1 (broadcastInDim S1x16 ![1] bcast_S16_S1x16_1 (iotaInDim S16 32 0)) (ix2 k d)
      = BitVec.ofNat 32 d.val := rfl
  show (IntOp.cmpi .eq _ _).setWidth 32 = _
  rw [e1, e2]
  show (BitVec.ofBool (a (ix1 k) == BitVec.ofNat 32 d.val)).setWidth 32 = _
  by_cases h : dests a k = BitVec.ofNat 32 d.val
  · rw [if_pos h, show a (ix1 k) = BitVec.ofNat 32 d.val from h, beq_self_eq_true]
    rfl
  · rw [if_neg h, beq_eq_false_iff_ne.2 (show a (ix1 k) ≠ BitVec.ofNat 32 d.val from h)]
    rfl

/-- The count of a destination is the number of rows with it. -/
theorem counts_apply (a : IVec S1024 32) (d : Fin 16) :
    counts a (ix1 d) = BitVec.ofNat 32 (Finset.univ.filter fun k => dests a k = BitVec.ofNat 32 d.val).card := by
  refine (reduce_rows (hot a) _ rfl reducesTo_S1024x16_S16_d0 h_S_ d).trans ?_
  rw [Finset.sum_congr rfl fun k _ => hot_apply a k d, sum_ones]

/-- Sixty-four of each, counted in words, is sixty-four of each. -/
theorem even_of_counts (a : IVec S1024 32) (h : ∀ d : Fin 16, counts a (ix1 d) = 64#32) : Even (dests a) := fun d => by
  have e := congrArg BitVec.toNat ((counts_apply a d).symm.trans (h d))
  have hle := Finset.card_le_univ (Finset.univ.filter fun k => dests a k = BitVec.ofNat 32 d.val)
  rw [Fintype.card_fin] at hle
  rw [BitVec.toNat_ofNat, Nat.mod_eq_of_lt (by omega)] at e
  exact e

theorem counts_of_even {a : IVec S1024 32} (h : Even (dests a)) : counts a = fun _ => 64#32 := by
  funext i
  obtain ⟨d, rfl⟩ : ∃ d : Fin 16, i = ix1 d := ⟨i 0, eq_ix1 i⟩
  rw [counts_apply, h d]

/-- The running sums less the table are the sums over the rows before. -/
theorem runs_sub_hot (a : IVec S1024 32) (k : Fin 1024) (d : Fin 16) :
    subi (runs a) (hot a) (ix2 k d) = ∑ j : Fin 1024, if j < k then hot a (ix2 j d) else 0 := by
  have e : runs a (ix2 k d) = ∑ j : Fin 1024, if j ≤ k then hot a (ix2 j d) else 0 :=
    cumsum_rows_sum (A := 1024) (Am1 := 1023) rfl (hot a) _ rfl reduceWindows_S1024x16_S1024x16_w1024s1p1023_0_w1s1p0_0 h_S_ k d
  show runs a (ix2 k d) - hot a (ix2 k d) = _
  rw [e]
  exact prefix_sub_last (fun j => hot a (ix2 j d)) k

/-- The rank of a row whose destination is a device is the word of its rank. -/
theorem ranks_apply (a : IVec S1024 32) (h : Even (dests a)) (k : Fin 1024) :
    ranks a (ix1 k) = BitVec.ofNat 32 (rankN (dests a) k) := by
  obtain ⟨d, hd⟩ := h.is_dev k
  refine (reduce_cols _ _ rfl reducesTo_S1024x16_S1024_d1 h_S_ k).trans ?_
  have e : ∀ q : Fin 16, muli (subi (runs a) (hot a)) (hot a) (ix2 k q)
      = if q = d then BitVec.ofNat 32 (rankN (dests a) k) else 0#32 := by
    intro q
    show subi (runs a) (hot a) (ix2 k q) * hot a (ix2 k q) = _
    by_cases hq : q = d
    · subst hq
      rw [if_pos rfl, hot_apply, if_pos hd, runs_sub_hot, BitVec.mul_one]
      refine Eq.trans ?_ (sum_ones fun j => j < k ∧ dests a j = dests a k)
      refine Finset.sum_congr rfl fun j _ => ?_
      rw [hot_apply, hd]
      by_cases hj : j < k
      · rw [if_pos hj]
        exact if_congr ⟨fun t => ⟨hj, t⟩, fun t => t.2⟩ rfl rfl
      · rw [if_neg hj, if_neg fun t => hj t.1]
        rfl
    · rw [if_neg hq, hot_apply, if_neg fun t => hq (word_inj (t.symm.trans hd)), BitVec.mul_zero]
  rw [Finset.sum_congr rfl fun q _ => e q]
  exact (Finset.sum_ite_eq' Finset.univ d _).trans (if_pos (Finset.mem_univ d))

/-- Entry `k` of the counts lands at column `k` of the table's first row. -/
theorem table_apply {a : IVec S1024 32} (h : Even (dests a)) (d : Fin 16) :
    table a (ix2 (0 : Fin 8) ⟨d.val, by omega⟩) = 64#32 := by
  unfold table
  rw [counts_of_even h]
  refine scatter_set_hit _ _ _ _ _ _ (fun _ _ => rfl) (ix1 d) ?_
  have hk : scatter_S8x128_S2_S16_0_0_01_0.sKept = [1] := rfl
  have hw0 : scatter_S8x128_S2_S16_0_0_01_0.window (ix1 d) 0 = 0 := by
    unfold ScatterDims.window
    rw [dif_neg (by rw [hk]; simp)]
  have hw1 : scatter_S8x128_S2_S16_0_0_01_0.window (ix1 d) 1 = d.val := by
    unfold ScatterDims.window
    rw [dif_pos (by rw [hk]; simp)]
    exact congrArg (fun t => ((ix1 d : (shape1 16).Idx) t).val) (Subsingleton.elim (α := Fin 1) _ 0)
  have hz : ∀ q : Fin 2, concatenate S2 0 [⟨S1, broadcastInDim S1 ![] bcast_S_S1 (constantI S_ 32 0#32)⟩,
      ⟨S1, broadcastInDim S1 ![] bcast_S_S1 (constantI S_ 32 0#32)⟩] concatenates_S1_S1_S2_d0 (ix1 q) = 0#32 := by
    intro q
    fin_cases q <;> rfl
  refine (resultIdx?_ix2 (R := 8) (C := 128) _ _ _ _ _).2 ⟨?_, ?_⟩
  · rw [start_pair (R := 8) (C := 128) _ rfl rfl, hw0, hz]
    rfl
  · rw [start_pair (R := 8) (C := 128) _ rfl rfl, hw1, hz]
    exact Int.zero_add _

end Cert.Route

end
-- ==== Proof.Place.lean ====
/-
Where each row goes, when every device number stands 64 times among each device's destinations: row `k` of device `c`
goes to its destination, at 64 times `c` plus its rank.
-/
module

public import proofs.«01_k».proof.Proof.HostVals
public import proofs.«01_k».proof.Proof.Region

@[expose] public section

noncomputable section

namespace Cert.Route

open Cert.KernelIdeal Cert.KernelIdeal.Gen

open Idealize.ShloMosaic hiding ix1 ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Routing Idealize.ShloMosaic.ValueIdx

/-- A device's own number is its number. -/
theorem me_eq (c : Dev nD) : me c = BitVec.ofNat 32 c.val := by
  revert c
  decide

/-- The places before the rows of device `c`: 64 for each device below it. -/
theorem base_apply (D : Data F) (c : Dev nD) (d : Fin 16) (hD : ∀ r : Fin 16, D.gath (ix2 r (⟨d.val, by omega⟩ : Fin 128)) = 64#32) :
    k0_pay4 (F := F) D.gath (k0_pay2 (me c)) k0_pay3 (ix1 (⟨d.val, by omega⟩ : Fin 128)) = BitVec.ofNat 32 (64 * c.val) := by
  have hc : c.val < 16 := c.isLt
  refine (lanes_sum (n := 16) (m := 128) _ reduces_S16x128_S128 rfl _).trans ?_
  have e : ∀ r : Fin 16, select (k0_pay2 (me c)) D.gath k0_pay3 (ix2 r (⟨d.val, by omega⟩ : Fin 128))
      = if r.val < c.val then 64#32 else 0#32 := by
    intro r
    have hr := r.isLt
    have h1 : k0_pay2 (me c) (ix2 r (⟨d.val, by omega⟩ : Fin 128)) = BitVec.ofBool ((BitVec.ofNat 32 r.val).slt (BitVec.ofNat 32 c.val)) := by
      rw [me_eq]
      unfold k0_pay2
      show BitVec.ofBool ((BitVec.ofNat 32 (0 * _ + r.val)).slt (BitVec.ofNat 32 c.val)) = _
      rw [Nat.zero_mul, Nat.zero_add]
    show Scalar.select (k0_pay2 (me c) _) (D.gath _) 0#32 = _
    rw [h1, hD]
    have h2 : (BitVec.ofNat 32 r.val).slt (BitVec.ofNat 32 c.val) = decide (r.val < c.val) := by
      rw [BitVec.slt, StableHlo.Predicate.toInt_ofNat_small _ (by omega), StableHlo.Predicate.toInt_ofNat_small _ (by omega)]
      exact decide_eq_decide.2 (by omega)
    rw [h2]
    by_cases h : r.val < c.val
    · rw [if_pos h, decide_eq_true h]
      rfl
    · rw [if_neg h, decide_eq_false h]
      rfl
  rw [Finset.sum_congr rfl fun r _ => e r]
  have hall : ∀ c : Fin 16, (∑ r : Fin 16, if r.val < c.val then 64#32 else 0#32) = BitVec.ofNat 32 (64 * c.val) := by decide
  exact hall ⟨c.val, hc⟩

/-- A lane of a vector of 128 words. -/
theorem lane (B : IVec S128 32) (e : ℕ) (he : e < 128) (h : S128.Slices (![e] : Fin 1 → ℕ) S1) :
    extractAt ![0] (extractStridedSlice S1 ![e] B h) inpos_S1_p0 = B (ix1 ⟨e, he⟩) := by
  refine congrArg B (funext fun a => ?_)
  match a with
  | ⟨0, _⟩ => rfl

/-- The position the kernel computes at one place of the table: the rank there, and the number of places before this
    device's rows at the destination there. -/
theorem chain_apply (B0 : IVec S128 32) (g : S16x128.Idx → BitVec 32) (p2 : IVec S16x128 1) (p3 : IVec S16x128 32)
    (hB : k0_pay4 (F := F) g p2 p3 = B0) (dest rank : S8x128.Idx → BitVec 32) (i : S8x128.Idx) (d : Fin 16)
    (hd : dest i = BitVec.ofNat 32 d.val) :
    k0_pay10 (k0_pay4 (F := F) g p2 p3) (k0_pay5 (F := F) dest)
      (k0_pay8 (k0_pay4 (F := F) g p2 p3) (k0_pay5 (F := F) dest) (k0_pay6 (F := F) g p2 p3 dest rank) (k0_pay7 (F := F) g p2 p3 dest))
      (k0_pay9 (k0_pay4 (F := F) g p2 p3) (k0_pay5 (F := F) dest)) i = rank i + B0 (ix1 (⟨d.val, by omega⟩ : Fin 128)) := by
  have h5 : k0_pay5 (F := F) dest = dest := by
    unfold k0_pay5
    exact shapeCast_self _ _
  unfold k0_pay10 k0_pay8 k0_pay6 k0_pay7 k0_pay9
  simp only [hB, h5, shapeCast_self, lane _ _ (by omega : 0 < 128), lane _ _ (by omega : 1 < 128), lane _ _ (by omega : 2 < 128),
    lane _ _ (by omega : 3 < 128), lane _ _ (by omega : 4 < 128), lane _ _ (by omega : 5 < 128), lane _ _ (by omega : 6 < 128),
    lane _ _ (by omega : 7 < 128), lane _ _ (by omega : 8 < 128), lane _ _ (by omega : 9 < 128), lane _ _ (by omega : 10 < 128),
    lane _ _ (by omega : 11 < 128), lane _ _ (by omega : 12 < 128), lane _ _ (by omega : 13 < 128), lane _ _ (by omega : 14 < 128),
    lane _ _ (by omega : 15 < 128)]
  have sel : ∀ (e : BitVec 32) (w : BitVec 32), select (cmpi .eq dest (broadcast S8x128 e)) (broadcast S8x128 w) (broadcast S8x128 0#32) i
      = if BitVec.ofNat 32 d.val = e then w else 0#32 := by
    intro e w
    show Scalar.select (BitVec.ofBool (dest i == e)) w 0#32 = _
    rw [hd]
    by_cases h : BitVec.ofNat 32 d.val = e
    · rw [if_pos h, h, beq_self_eq_true]
      rfl
    · rw [if_neg h, beq_eq_false_iff_ne.2 h]
      rfl
  have add : ∀ (u v : IVec S8x128 32), addi u v i = u i + v i := fun _ _ => rfl
  simp only [add, sel]
  fin_cases d <;> simp

end Cert.Route

end
-- ==== Proof.Good.lean ====
/-
The precondition gives what the protocol asks: the rows of the whole launch are dealt one to a place, row `k` of device `c`
to its destination, at 64 times `c` plus its rank.
-/
module

public import proofs.«01_k».proof.Proof.Place
public import proofs.«01_k».proof.Proof.Segs
public import proofs.«01_k».proof.Proof.Gen.Pre_even_Kernel

@[expose] public section

noncomputable section

namespace Cert.Route

open Cert.KernelIdeal Cert.KernelIdeal.Gen

open Idealize.ShloMosaic hiding ix1 ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Routing Idealize.ShloMosaic.ValueIdx

/-- The precondition, read of a device's own two arguments: each device number stands 64 times among its destinations. -/
theorem even_of_pre (x : FVec F S1024x512 .bf16) (a : IVec S1024 32) (h : Cert.Pre_even_Kernel.fn (F := F) x a = fun _ => 1#1) :
    Even (dests a) := by
  refine even_of_counts a fun d => ?_
  have e := congrFun h (ix1 d)
  change BitVec.ofBool (counts a (ix1 d) == 64#32) = 1#1 at e
  by_contra hne
  rw [beq_eq_false_iff_ne.2 hne] at e
  exact absurd e (by decide)

/-- Row by row, an 8×128 table made of 1024 words holds word `k` at place `k`. -/
theorem cast_cell (a : IVec S1024 32) (k : Fin 1024) : shapeCast S8x128 a shapeCasts_S1024_S8x128 (cell k) = a (ix1 k) := by
  refine shapeCast_apply a _ _ _ ?_
  rw [Shape.rowMajor_val_one, Shape.rowMajor_val_two]
  show k.val = k.val / 128 * 128 + k.val % 128
  omega

variable (m : (ℓ : Loc nD τ sig) → Buf (Elt F) ℓ)

/-- A device's destinations, as launched. -/
def destOf (c : Dev nD) : Fin 1024 → BitVec 32 := dests (m ((c : Thread nD τ).loc main_arg1))

theorem dat_dest_apply (c : Dev nD) (k : Fin 1024) : (dat m).dest c (cell k) = destOf m c k := by
  rw [dat_dest]
  exact (congrFun (read_dest fun b => m (c, b)) (cell k)).trans (cast_cell _ k)

section Places
variable (h : ∀ c, Even (destOf m c))
include h

theorem dat_rank_apply (c : Dev nD) (k : Fin 1024) : (dat m).rank c (cell k) = BitVec.ofNat 32 (rankN (destOf m c) k) := by
  rw [dat_rank]
  exact (congrFun (read_rank fun b => m (c, b)) (cell k)).trans ((cast_cell _ k).trans (ranks_apply _ (h c) k))

theorem gath_apply (r d : Fin 16) : (dat m).gath (ix2 r (⟨d.val, by omega⟩ : Fin 128)) = 64#32 := by
  have e : (dat m).gath (ix2 r (⟨d.val, by omega⟩ : Fin 128)) = (dat m).cnt r (ix2 (0 : Fin 8) (⟨d.val, by omega⟩ : Fin 128)) := by
    refine congrArg ((dat m).cnt r) (funext fun a => ?_)
    match a with
    | ⟨0, _⟩ => rfl
    | ⟨1, _⟩ => rfl
  rw [e, dat_cnt]
  exact (congrFun (read_table fun b => m (r, b)) _).trans (table_apply (h r) d)

/-- Row `k` of device `c` goes to its destination … -/
theorem dst_eq (c : Dev nD) (k : Fin 1024) : (dat m).dst c k = (destOf m c k).toNat := by
  unfold Data.dst
  rw [dat_dest_apply]

/-- … at 64 times `c` plus its rank. -/
theorem pos_eq (c : Dev nD) (k : Fin 1024) : (dat m).pos c k = 64 * c.val + rankN (destOf m c) k := by
  obtain ⟨d, hd⟩ := (h c).is_dev k
  have hc : c.val < 16 := c.isLt
  have hr := (h c).rankN_lt k
  unfold Data.pos Data.pvec
  rw [chain_apply _ _ _ _ rfl _ _ _ d ((dat_dest_apply m c k).trans hd), dat_rank_apply m h, base_apply (dat m) c d fun r => gath_apply m h r d,
    BitVec.toNat_add, BitVec.toNat_ofNat, BitVec.toNat_ofNat]
  omega

/-- The rows are dealt one to a place. -/
theorem good : (dat m).Good where
  dst_lt c k := by rw [dst_eq m h]; exact (h c).lt k
  pos_lt c k := by
    have hc : c.val < 16 := c.isLt
    have hr := (h c).rankN_lt k
    rw [pos_eq m h]
    omega
  inj c k c' k' h1 h2 := by
    have hr := (h c).rankN_lt k
    have hr' := (h c').rankN_lt k'
    rw [dst_eq m h, dst_eq m h] at h1
    rw [pos_eq m h, pos_eq m h] at h2
    obtain rfl : c = c' := Fin.ext (by omega)
    exact ⟨rfl, eq_of_rankN_eq (BitVec.eq_of_toNat_eq h1) (by omega)⟩

end Places

end Cert.Route

end
-- ==== Proof.Frames.lean ====
/-
The runs of the two programs end with their arguments as launched and the semaphores at zero.
-/
module

public import proofs.«01_k».proof.Defs
public import proofs.«01_k».proof.Proof.Run
public import proofs.«01_k».proof.Proof.Good
public import proofs.«01_k».proof.Proof.Gen.Kernel

@[expose] public section

noncomputable section

namespace Cert.Route

open Cert.KernelIdeal Cert.KernelIdeal.Gen

open Idealize.ShloMosaic hiding ix1 ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (G : (dat m).Good)

/-- The operations after the kernel leave what is none of the result's three buffers. -/
theorem keeps (W : Valuation τ sig (Elt F)) (b : Ref sig .tc) (h2 : b ≠ main_v22) (h3 : b ≠ main_v23) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h2, StableHlo.devRef_ne_of_ne h3⟩))

theorem arg0_kept (c : Dev nD) : StableHlo.after hostOps1 (V1 m G c) (Proc.devRef .tc main_arg0) = m ((c : Thread nD τ).loc main_arg0) := by
  rw [keeps _ _ (by decide) (by decide), V1_ne m G c main_arg0 (by decide)]
  exact V_main_arg0 m c

theorem arg1_kept (c : Dev nD) : StableHlo.after hostOps1 (V1 m G c) (Proc.devRef .tc main_arg1) = m ((c : Thread nD τ).loc main_arg1) := by
  rw [keeps _ _ (by decide) (by decide), V1_ne m G c main_arg1 (by decide)]
  exact V_main_arg1 m c

theorem uc_arg0 : Proc.devRef (τ := τ) (sig := sig) .tc main_arg0 ∈ Pipeline.ucRefs τ sig := by decide
theorem uc_arg1 : Proc.devRef (τ := τ) (sig := sig) .tc main_arg1 ∈ Pipeline.ucRefs τ sig := by decide
theorem uc_out : Proc.devRef (τ := τ) (sig := sig) .tc main_v23 ∈ Pipeline.ucRefs τ sig := by decide

/-- THE RUN: every final memory holds the arguments as launched, the result's buffer the rows sent to each device, and the
    semaphores are at zero. -/
theorem run_ends (ρ : Dev nD → PrngReg) :
    θ_run (defs (F := F)) (onTc (τ := τ) (main (F := F))) ⟨m, fun _ => 0, ρ⟩ fun r =>
      (∀ c : Dev nD, r.2.mem ((c : Thread nD τ).loc main_v23)
            = (extf .f32 (shapeCast S1024x512 (G.outv c) shapeCasts_S1024x4x128_S1024x512) bitsLt_bf16_f32 : FVec F S1024x512 .f32)
          ∧ r.2.mem ((c : Thread nD τ).loc main_arg0) = m ((c : Thread nD τ).loc main_arg0)
          ∧ r.2.mem ((c : Thread nD τ).loc main_arg1) = m ((c : Thread nD τ).loc main_arg1))
        ∧ r.2.sem = fun _ => 0 :=
  (θ_run (defs (F := F)) _ _).mono (fun r hr => ⟨fun c => ⟨by
      refine (hr.1 c _ uc_out).trans ((read_out _).trans ?_)
      rw [V1_out], (hr.1 c _ uc_arg0).trans (arg0_kept m G c), (hr.1 c _ uc_arg1).trans (arg1_kept m G c)⟩, hr.2⟩) (run_main m ρ G)

/-- The frame, for any float values. -/
theorem frame (ρ : Dev nD → PrngReg) (hpre : ∀ c : Dev nD, Cert.Pre_even_Kernel.fn (F := F) (m ((c : Thread nD τ).loc main_arg0))
      (m ((c : Thread nD τ).loc main_arg1)) = fun _ => 1#1) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
          ∧ r.2.mem ((c : Thread nD τ).loc main_arg1) = m ((c : Thread nD τ).loc main_arg1))
        ∧ r.2.sem = fun _ => 0 :=
  (θ_run (defs (F := F)) _ _).mono (fun r hr => ⟨fun c => (hr.1 c).2, hr.2⟩)
    (run_ends m (good m fun c => even_of_pre _ _ (hpre c)) ρ)

theorem frame_ideal : Cert.quiescent_KernelIdeal := fun m ρ hpre => frame (F := Ideal) m ρ hpre

/-! ## The compiled program has the same text, and so the same run over its own floats -/

theorem defs0_same : Cert.Kernel.defs₀ (F := Bits) = Cert.KernelIdeal.defs₀ (F := Bits) := by
  funext k l a
  match k, l, a with
  | .tc, (0 : Fin 1), (t, s) => rfl
  | .scScalar _, (0 : Fin 1), (t, s) => rfl
  | .scVector _ _, (0 : Fin 1), (t, s) => rfl

theorem defs_same : Cert.Kernel.defs (F := Bits) = Cert.KernelIdeal.defs (F := Bits) :=
  congrArg (Pipeline.defs (Cert.KernelIdeal.pcfgs (F := Bits))) defs0_same

set_option maxHeartbeats 1000000 in
theorem main_same : Cert.Kernel.main (F := Bits) = Cert.KernelIdeal.main (F := Bits) := rfl

theorem frame_kernel : Cert.quiescent_Kernel := fun m ρ hpre => by
  have h := frame (F := Bits) m ρ hpre
  rw [← defs_same, ← main_same] at h
  exact h

end Cert.Route

end
-- ==== Proof.Ref.lean ====
/-
The reference is a straight line of whole-array operations on one device: its run leaves the arguments, and its result is the
rows taken in the order of a stable sort of the destinations, read at the wider float format.
-/
module

public import proofs.«01_k».proof.Defs
public import proofs.«01_k».proof.Proof.Gen.ReferenceIdeal
public import proofs.«01_k».proof.Proof.Gen.Pre_even_ReferenceIdeal
public import Idealize.ShloMosaic.Lib.StableHlo.Run
public import Idealize.ShloMosaic.Lib.Quiescent

@[expose] public section

noncomputable section

namespace Cert.Sorted

open Cert.ReferenceIdeal Cert.ReferenceIdeal.Gen
open Idealize.ShloMosaic Idealize.ShloMosaic.TcCoe Idealize.ShloMosaic.StableHlo Idealize.SL.Sem

variable {F : FTy → Type} [FloatOps F]

/-- The program's operations, one after another. -/
abbrev line : List (HloOp τ sig (Elt F)) :=
  [ TRef.nullary main_call0.v0 (iotaInDim S16384 32 0),
    TRef.binary (.of main_arg1) main_call0.v0 main_call0.v1_0 (fun x y => (Host.sort2 S16384 0 comparator_i32_i32_d0 x y).1),
    TRef.binary (.of main_arg1) main_call0.v0 main_call0.v1_1 (fun x y => (Host.sort2 S16384 0 comparator_i32_i32_d0 x y).2),
    nullary main_c (constantI S_ 32 0#32),
    unary main_c main_v1 (broadcastInDim S16384 ![] bcast_S_S16384),
    binary main_v0 main_v1 main_v2 (cmpi .slt),
    nullary main_c_0 (constantI S_ 32 16384#32),
    unary main_c_0 main_v3 (broadcastInDim S16384 ![] bcast_S_S16384),
    binary main_v0 main_v3 main_v4 addi,
    ternary main_v2 main_v4 main_v0 main_v5 select,
    unary main_v5 main_v6 (broadcastInDim S16384x1 ![0] bcast_S16384_S16384x1_0),
    binary main_arg0 main_v6 main_v7 (fun x i => Host.gather gather_S16384x512_S16384x1_S16384x512_1_0_n_n_0_1_1512 x i),
    unary main_v7 main_v8 (extf .f32 · bitsLt_bf16_f32) ]

theorem main_line (c : Dev nD) : main (F := F) c = seq line := rfl

/-- The positions in the order of the destinations, a stable sort's. -/
def order (a : IVec S16384 32) : IVec S16384 32 := (Host.sort2 S16384 0 comparator_i32_i32_d0 a (iotaInDim S16384 32 0)).2

/-- The rows to take: a position below zero would count from the end. -/
def picks (a : IVec S16384 32) : IVec S16384x1 32 :=
  broadcastInDim S16384x1 ![0] bcast_S16384_S16384x1_0
    (select (cmpi .slt (order a) (broadcastInDim S16384 ![] bcast_S_S16384 (constantI S_ 32 0#32)))
      (addi (order a) (broadcastInDim S16384 ![] bcast_S_S16384 (constantI S_ 32 16384#32))) (order a))

/-- The reference's result. -/
def sorted (x : FVec F S16384x512 .bf16) (a : IVec S16384 32) : FVec F S16384x512 .f32 :=
  extf .f32 (Host.gather gather_S16384x512_S16384x1_S16384x512_1_0_n_n_0_1_1512 x (picks a)) bitsLt_bf16_f32

theorem line_out (W : Valuation τ sig (Elt F)) :
    after line W (main_v8 : DevRef τ sig) = sorted (W (main_arg0 : DevRef τ sig)) (W (main_arg1 : DevRef τ sig)) := by
  after_results_simp
  simp only [TRef.toBuf, TRef.ofBuf, cast_eq]
  rfl

theorem line_arg0 (W : Valuation τ sig (Elt F)) : after line W (main_arg0 : DevRef τ sig) = W (main_arg0 : DevRef τ sig) := by
  after_results_simp

theorem line_arg1 (W : Valuation τ sig (Elt F)) : after line W (main_arg1 : DevRef τ sig) = W (main_arg1 : DevRef τ sig) := by
  after_results_simp

theorem no_scoped_refs : (Finset.univ.filter fun b : Ref sig .tc => b.isScoped) = ∅ := by decide
theorem no_scoped_sems : (Finset.univ.filter fun sm : SemLoc sig => sm.isScoped .tc) = ∅ := by decide

theorem line_tc : (line : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub ..⟩

/-- THE REFERENCE's RUN: the result is `sorted` of the arguments, which stay. -/
theorem run_line (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = sorted (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v8).trans (line_out _), (h c main_arg0).trans (line_arg0 _), (h c main_arg1).trans (line_arg1 _)⟩)
    (run_seq no_scoped_refs no_scoped_sems defs main (fun _ => line) main_line (fun _ => line_tc) m ρ)

/-- The reference has no semaphore to leave above zero. -/
theorem frame_reference : Cert.quiescent_ReferenceIdeal := fun m ρ _ =>
  (θ_run defs _ _).mono (fun r h => ⟨fun c => (h c).2, sem_eq_zero_of_no_sems (by decide) r.2⟩) (run_line (F := Ideal) m ρ)

/-- The same where the precondition is given, which the run does not need. -/
theorem frame_reference_even : Cert.quiescent_ReferenceIdeal_pre_even_ReferenceIdeal := fun m ρ _ =>
  (θ_run defs _ _).mono (fun r h => ⟨fun c => (h c).2, sem_eq_zero_of_no_sems (by decide) r.2⟩) (run_line (F := Ideal) m ρ)

end Cert.Sorted

end
-- ==== Proof.Order.lean ====
/-
The reference's row order, in closed form. A rearrangement of the positions along which the destinations ascend, and the
positions ascend where the destinations agree, IS the stable sort's; so the row the reference reads at each place is known.
-/
module

public import proofs.«01_k».proof.Proof.Ref
public import Idealize.ShloMosaic.Lib.PlanTiles.StableSort
public import Idealize.ShloMosaic.Lib.ValueIdx
public import Idealize.ShloMosaic.Lib.WordCmp
public import Mathlib.Data.List.OfFn

@[expose] public section

noncomputable section

namespace Cert.Sorted

open Idealize.ShloMosaic

/-! ## The stable sort -/

/-- `σ` lists the positions by ascending `K`, those of equal `K` in their own order. -/
def Lists {n : ℕ} (K : Fin n → ℕ) (σ : Equiv.Perm (Fin n)) : Prop :=
  ∀ p q : Fin n, p < q → K (σ p) < K (σ q) ∨ (K (σ p) = K (σ q) ∧ σ p < σ q)

/-- Such a `σ` is what a stable sort by `K` gives. -/
theorem sortedFrom_of_lists {n B : ℕ} {K : Fin n → ℕ} {σ : Equiv.Perm (Fin n)} (hB : ∀ k, K k ≤ B) (h : Lists K σ) (p : Fin n) :
    sortedFrom (fun a b => decide (K a < K b)) p = σ p := by
  have hbef : (fun a b => decide (K a < K b)) = fun a b : Fin n => decide (B - K b < B - K a) := by
    funext a b
    have ha := hB a
    have hb := hB b
    exact decide_eq_decide.2 (by omega)
  have hsort : (sortPositions n fun a b => decide (K a < K b)).Pairwise (PlanTiles.Lex (fun a => B - K a) (· < ·)) := by
    rw [hbef]
    exact PlanTiles.pairwise_stableSort_lex (fun a => B - K a) (· < ·) (List.finRange n) (List.pairwise_lt_finRange n)
  have hσ : (List.ofFn fun i => σ i).Pairwise (PlanTiles.Lex (fun a => B - K a) (· < ·)) := by
    rw [List.pairwise_ofFn]
    intro i j hij
    have hi := hB (σ i)
    have hj := hB (σ j)
    rcases h i j hij with h | ⟨h, h'⟩
    · exact Or.inl (by show B - K (σ j) < B - K (σ i); omega)
    · exact Or.inr ⟨by show B - K (σ i) = B - K (σ j); omega, h'⟩
  have hperm : (sortPositions n fun a b => decide (K a < K b)).Perm (List.ofFn fun i => σ i) :=
    (perm_sortPositions n _).trans (Equiv.Perm.ofFn_comp_perm σ fun i => i).symm
  have e := List.Perm.eq_of_pairwise (fun a b _ _ q1 q2 => by
    rcases q1 with q1 | ⟨q1, q1'⟩ <;> rcases q2 with q2 | ⟨q2, q2'⟩
    · omega
    · omega
    · omega
    · exact absurd q1' (lt_asymm q2')) hsort hσ hperm
  unfold sortedFrom
  rw [List.get_of_eq e]
  exact List.get_ofFn _ _

/-! ## The reference's reading of it -/

open Cert.ReferenceIdeal Cert.ReferenceIdeal.Gen Idealize.ShloMosaic.ValueIdx

/-- The position the sort puts at each place. -/
theorem order_apply (a : IVec S16384 32) {σ : Equiv.Perm (Fin 16384)} (ha : ∀ k : Fin 16384, (a (ix1 k)).toNat < 16)
    (h : Lists (fun k => (a (ix1 k)).toNat) σ) (p : Fin 16384) : order a (ix1 p) = BitVec.ofNat 32 (σ p).val := by
  have hd : 0 < S16384.rank := Nat.zero_lt_one
  have e : ∀ (j : S16384.Idx) (c : Fin 16384), j.along (⟨0, hd⟩ : Fin S16384.rank) c = ix1 c :=
    fun j c => (Shape.Idx.along_rank1 j c).trans (eq_ix1 _)
  have hb : ∀ j : S16384.Idx, (fun k k' : Fin 16384 =>
      comparator_i32_i32_d0 (a (j.along (⟨0, hd⟩ : Fin S16384.rank) k), iotaInDim S16384 32 0 (j.along (⟨0, hd⟩ : Fin S16384.rank) k))
        (a (j.along (⟨0, hd⟩ : Fin S16384.rank) k'), iotaInDim S16384 32 0 (j.along (⟨0, hd⟩ : Fin S16384.rank) k')) == 1#1)
      = fun k k' => decide ((a (ix1 k)).toNat < (a (ix1 k')).toNat) := fun j => by
    funext k k'
    rw [e j k, e j k']
    show (IntOp.cmpi .slt (a (ix1 k)) (a (ix1 k')) == 1#1) = _
    have h1 := ha k
    have h2 := ha k'
    rw [WordCmp.cmpi_slt_of_lt (by omega) (by omega), beq_eq_decide]
    exact decide_eq_decide.2 (WordCmp.ofBool_decide_eq_one_iff _)
  have step := (congrArg (fun f => sortedFrom (n := 16384) f p) (hb (ix1 p))).trans (sortedFrom_of_lists (fun k => (ha k).le) h p)
  unfold order Host.sort2
  rw [dif_pos hd]
  exact (congrArg (fun c : Fin 16384 => iotaInDim S16384 32 0 ((ix1 p : S16384.Idx).along (⟨0, hd⟩ : Fin S16384.rank) c)) step).trans
    (congrArg (iotaInDim S16384 32 0) (e (ix1 p) (σ p)))

/-- The row the reference takes at each place. -/
theorem picks_apply (a : IVec S16384 32) {σ : Equiv.Perm (Fin 16384)} (ha : ∀ k : Fin 16384, (a (ix1 k)).toNat < 16)
    (h : Lists (fun k => (a (ix1 k)).toNat) σ) (p : Fin 16384) : picks a (ix2 p (0 : Fin 1)) = BitVec.ofNat 32 (σ p).val := by
  have hp := (σ p).isLt
  have e : picks a (ix2 p (0 : Fin 1)) = Scalar.select (IntOp.cmpi .slt (order a (ix1 p)) 0#32) (IntOp.addi (order a (ix1 p)) 16384#32) (order a (ix1 p)) := by
    have ei : ∀ v : IVec S16384 32, broadcastInDim S16384x1 ![0] bcast_S16384_S16384x1_0 v (ix2 p (0 : Fin 1)) = v (ix1 p) := fun v => by
      unfold broadcastInDim
      refine congrArg v (funext fun b => ?_)
      match b with
      | ⟨0, _⟩ => rfl
    unfold picks
    rw [ei]
    rfl
  have hn : (BitVec.ofNat 32 (σ p).val).toNat = (σ p).val := by
    rw [BitVec.toNat_ofNat]
    omega
  rw [e, order_apply a ha h, WordCmp.cmpi_slt_of_lt (by omega) (by decide)]
  have hlt : ¬ (BitVec.ofNat 32 (σ p).val).toNat < (0#32).toNat := by simp
  rw [decide_eq_false hlt]
  rfl

/-- Taking rows by number, read at a place: the number is a sign word, kept within the rows. -/
theorem gather_row {α : Type} (x : S16384x512.Idx → α) (idx : IVec S16384x1 32) (p : Fin 16384) (j : Fin 512) :
    Host.gather gather_S16384x512_S16384x1_S16384x512_1_0_n_n_0_1_1512 x idx (ix2 p j)
      = x (ix2 (⟨min (idx (ix2 p (0 : Fin 1))).toInt.toNat 16383, by omega⟩ : Fin 16384) j) := by
  unfold Host.gather
  congr 1
  funext b
  refine Fin.ext ?_
  show GatherDims.start _ (ix2 p j) idx b + GatherDims.batchCoord _ (ix2 p j) b + GatherDims.offCoord _ (ix2 p j) b = _
  rw [GatherDims.batchCoord_eq_zero _ _ _ List.not_mem_nil]
  have hb : b = 0 ∨ b = 1 := by
    match b with
    | ⟨0, _⟩ => exact Or.inl rfl
    | ⟨1, _⟩ => exact Or.inr rfl
  rcases hb with rfl | rfl
  · rw [GatherDims.offCoord_eq_zero _ _ _ fun h => ((GatherDims.mem_sKept _ _).mp h).1 (List.mem_singleton.mpr rfl)]
    simp only [Nat.add_zero]
    unfold GatherDims.start
    rw [dif_pos (show (0 : Fin 2) ∈ gather_S16384x512_S16384x1_S16384x512_1_0_n_n_0_1_1512.startIndexMap from List.mem_singleton.mpr rfl)]
    have hsi : GatherDims.siIdx gather_S16384x512_S16384x1_S16384x512_1_0_n_n_0_1_1512 (ix2 p j)
        ⟨List.idxOf (0 : Fin 2) gather_S16384x512_S16384x1_S16384x512_1_0_n_n_0_1_1512.startIndexMap,
          List.idxOf_lt_length_iff.2 (List.mem_singleton.mpr rfl)⟩ = ix2 p (0 : Fin 1) := by
      funext b
      refine Fin.ext ?_
      match b with
      | ⟨0, _⟩ => rfl
      | ⟨1, _⟩ => rfl
    rw [hsi]
    rfl
  · unfold GatherDims.start
    rw [dif_neg (show ¬ (1 : Fin 2) ∈ gather_S16384x512_S16384x1_S16384x512_1_0_n_n_0_1_1512.startIndexMap from fun h => by
      simp [gather_S16384x512_S16384x1_S16384x512_1_0_n_n_0_1_1512] at h)]
    simp only [Nat.zero_add, Nat.add_zero]
    rfl

/-- THE REFERENCE's RESULT at a place: the row `σ` names, at the wider format. -/
theorem sorted_eq {F : FTy → Type} [FloatOps F] (x : FVec F S16384x512 .bf16) (a : IVec S16384 32) {σ : Equiv.Perm (Fin 16384)}
    (ha : ∀ k : Fin 16384, (a (ix1 k)).toNat < 16) (h : Lists (fun k => (a (ix1 k)).toNat) σ) :
    sorted x a = extf .f32 (fun i => x (ix2 (σ ⟨(i 0).val, idx2_lt0 i⟩) (⟨(i 1).val, idx2_lt1 i⟩ : Fin 512)) : FVec F S16384x512 .bf16) bitsLt_bf16_f32 := by
  unfold sorted
  congr 1
  funext i
  obtain ⟨p, j, rfl⟩ : ∃ (p : Fin 16384) (j : Fin 512), i = ix2 p j := ⟨_, _, eq_ix2 i⟩
  have hp := (σ p).isLt
  have e : ∀ hlt, (⟨min (picks a (ix2 p (0 : Fin 1))).toInt.toNat 16383, hlt⟩ : Fin 16384) = σ p := fun hlt => by
    apply Fin.ext
    have hn : (BitVec.ofNat 32 (σ p).val).toNat = (σ p).val := by
      rw [BitVec.toNat_ofNat]
      omega
    simp only [picks_apply a ha h, WordCmp.toInt_eq_toNat_of_lt_half (show (BitVec.ofNat 32 (σ p).val).toNat < 2 ^ (32 - 1) by omega),
      Int.toNat_natCast]
    omega
  rw [gather_row, e]

end Cert.Sorted

end
-- ==== Proof.Same.lean ====
/-
The two programs give the same array: device `c`'s rows at the end are block `c` of the reference's.
-/
module

public import proofs.«01_k».proof.Proof.Frames
public import proofs.«01_k».proof.Proof.Order

@[expose] public section

noncomputable section

namespace Cert.Route

open Cert.KernelIdeal Cert.KernelIdeal.Gen

open Idealize.ShloMosaic hiding ix1 ix2 ix3 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx
open Cert.Sorted (Lists sorted)

/-- Place `p` of device `c`, among all the rows. -/
abbrev glob : Dev nD × Fin 1024 ≃ Fin 16384 := finProdFinEquiv (m := 16) (n := 1024)

theorem glob_val (q : Dev nD × Fin 1024) : (glob q).val = q.2.val + 1024 * q.1.val := rfl

/-- Row `q.2` of block `q.1`, among all the rows. -/
theorem tile_glob (t : Layout.Tiles ⟨2, ![1024, 512]⟩ ⟨2, ![16384, 512]⟩ 0 16) (q : Dev nD × Fin 1024) (j : Fin 512) :
    t.idx q.1 (ix2 q.2 j) = ix2 (glob q) j := by
  funext b
  apply Fin.ext
  match b with
  | ⟨0, _⟩ =>
    rw [Layout.Tiles.idx_val]
    show q.1.val * 1024 + q.2.val = q.2.val + 1024 * q.1.val
    omega
  | ⟨1, _⟩ => rfl

/-- A row of 512 laid out as 4 times 128. -/
theorem split_row (v : FVec F S1024x512 .bf16) (k : Fin 1024) (j : Fin 512) :
    shapeCast S1024x4x128 v shapeCasts_S1024x512_S1024x4x128 (ix3 k (⟨j.val / 128, by omega⟩ : Fin 4) (⟨j.val % 128, by omega⟩ : Fin 128)) = v (ix2 k j) := by
  refine shapeCast_apply _ _ _ _ ?_
  rw [Shape.rowMajor_val_three, Shape.rowMajor_val_two]
  show k.val * 512 + j.val = (k.val * 4 + j.val / 128) * 128 + j.val % 128
  omega

/-- And back. -/
theorem join_row (v : FVec F S1024x4x128 .bf16) (k : Fin 1024) (j : Fin 512) :
    shapeCast S1024x512 v shapeCasts_S1024x4x128_S1024x512 (ix2 k j) = v (ix3 k (⟨j.val / 128, by omega⟩ : Fin 4) (⟨j.val % 128, by omega⟩ : Fin 128)) := by
  refine shapeCast_apply _ _ _ _ ?_
  rw [Shape.rowMajor_val_three, Shape.rowMajor_val_two]
  show (k.val * 4 + j.val / 128) * 128 + j.val % 128 = k.val * 512 + j.val
  omega

/-- Widening the format goes block by block. -/
theorem wide_block (v : FVec F S1024x512 .bf16) (w : FVec F (⟨2, ![16384, 512]⟩ : Shape) .bf16) (c : Dev nD)
    (e : v = Layout.block ⟨2, ![1024, 512]⟩ ⟨2, ![16384, 512]⟩ 0 16 c w) :
    (extf .f32 v bitsLt_bf16_f32 : FVec F S1024x512 .f32)
      = Layout.block ⟨2, ![1024, 512]⟩ ⟨2, ![16384, 512]⟩ 0 16 c (extf .f32 w bitsLt_bf16_f32 : FVec F (⟨2, ![16384, 512]⟩ : Shape) .f32) := by
  subst e
  rfl

section Agree
variable (m : (ℓ : Loc nD τ sig) → Buf (Elt F) ℓ) (h : ∀ c, Even (destOf m c))
variable (x' : (⟨2, ![16384, 512]⟩ : Shape).Idx → Elt F .bf16) (a' : IVec (⟨1, ![16384]⟩ : Shape) 32)
variable (hx : ∀ c : Dev nD, m ((c : Thread nD τ).loc main_arg0) = Layout.block ⟨2, ![1024, 512]⟩ ⟨2, ![16384, 512]⟩ 0 16 c x')
variable (ha : ∀ c : Dev nD, m ((c : Thread nD τ).loc main_arg1) = Layout.block ⟨1, ![1024]⟩ ⟨1, ![16384]⟩ 0 16 c a')

include ha in
/-- A device's destinations, read of the whole array. -/
theorem dest_glob (q : Dev nD × Fin 1024) : a' (ix1 (glob q)) = destOf m q.1 q.2 := by
  show _ = m ((q.1 : Thread nD τ).loc main_arg1) (ix1 q.2)
  rw [ha, Layout.block_apply]
  refine congrArg a' (funext fun b => Fin.ext ?_)
  match b with
  | ⟨0, _⟩ =>
    rw [Layout.Tiles.idx_val]
    show q.2.val + 1024 * q.1.val = q.1.val * 1024 + q.2.val
    omega

include hx in
/-- A device's rows, read of the whole array. -/
theorem x_glob (q : Dev nD × Fin 1024) (j : Fin 512) :
    (m ((q.1 : Thread nD τ).loc main_arg0) : FVec F S1024x512 .bf16) (ix2 q.2 j) = x' (ix2 (glob q) j) := by
  rw [hx, Layout.block_apply, tile_glob]

/-- Where each place's row comes from, among all the rows. -/
def source (G : (dat m).Good) : Equiv.Perm (Fin 16384) := (glob.symm.trans G.perm.symm).trans glob

theorem source_glob (G : (dat m).Good) (q : Dev nD × Fin 1024) : source m G (glob q) = glob (G.perm.symm q) := by
  simp only [source, Equiv.trans_apply, Equiv.symm_apply_apply]

include h in
/-- A place is its row's destination, 64 times the sender on, plus the rank. -/
theorem place_dst (G : (dat m).Good) (q : Dev nD × Fin 1024) :
    (destOf m (G.perm.symm q).1 (G.perm.symm q).2).toNat = q.1.val := by
  rw [← dst_eq m h]
  exact congrArg (fun z : Dev nD × Fin 1024 => z.1.val) (G.perm.apply_symm_apply q)

include h in
theorem place_pos (G : (dat m).Good) (q : Dev nD × Fin 1024) :
    64 * (G.perm.symm q).1.val + rankN (destOf m (G.perm.symm q).1) (G.perm.symm q).2 = q.2.val := by
  rw [← pos_eq m h]
  exact congrArg (fun z : Dev nD × Fin 1024 => z.2.val) (G.perm.apply_symm_apply q)

include h ha in
/-- THE PLACES FOLLOW THE SORT: along them the destinations ascend, and where two agree the rows keep their order. -/
theorem source_lists (G : (dat m).Good) : Lists (fun k => (a' (ix1 k)).toNat) (source m G) := by
  intro p p' hp
  obtain ⟨q, rfl⟩ := glob.surjective p
  obtain ⟨q', rfl⟩ := glob.surjective p'
  simp only [source_glob, dest_glob m a' ha, place_dst m h]
  have hlt : q.2.val + 1024 * q.1.val < q'.2.val + 1024 * q'.1.val := hp
  have h2 := q.2.isLt
  have h2' := q'.2.isLt
  by_cases hd : q.1.val = q'.1.val
  · refine Or.inr ⟨hd, ?_⟩
    have e := place_pos m h G q
    have e' := place_pos m h G q'
    have d := place_dst m h G q
    have d' := place_dst m h G q'
    have r := (h (G.perm.symm q).1).rankN_lt (G.perm.symm q).2
    have r' := (h (G.perm.symm q').1).rankN_lt (G.perm.symm q').2
    revert e e' d d' r r'
    generalize G.perm.symm q = z
    generalize G.perm.symm q' = z'
    obtain ⟨s, k⟩ := z
    obtain ⟨s', k'⟩ := z'
    intro e e' d d' r r'
    dsimp only at e e' d d' r r'
    show k.val + 1024 * s.val < k'.val + 1024 * s'.val
    have hk := k.isLt
    by_cases hs : s = s'
    · subst hs
      have hkk : k < k' := lt_of_rankN_lt (a := destOf m s) (BitVec.eq_of_toNat_eq (by omega)) (by omega)
      have : k.val < k'.val := hkk
      omega
    · have hs' : s.val ≠ s'.val := fun h => hs (Fin.ext h)
      omega
  · exact Or.inl (by omega)

include hx in
/-- The rows a device ends with, read of the whole array. -/
theorem out_glob (G : (dat m).Good) (c : Dev nD) (p : Fin 1024) (j : Fin 512) :
    shapeCast S1024x512 (G.outv c) shapeCasts_S1024x4x128_S1024x512 (ix2 p j) = x' (ix2 (source m G (glob (c, p))) j) := by
  rw [source_glob, ← x_glob m x' hx]
  have e2 : G.outv c (ix3 p (⟨j.val / 128, by omega⟩ : Fin 4) (⟨j.val % 128, by omega⟩ : Fin 128))
      = (dat m).x (G.perm.symm (c, p)).1 (ix3 (G.perm.symm (c, p)).2 (⟨j.val / 128, by omega⟩ : Fin 4) (⟨j.val % 128, by omega⟩ : Fin 128)) := by
    refine congrArg ((dat m).x (G.perm.symm (c, p)).1) (funext fun b => ?_)
    match b with
    | ⟨0, _⟩ => rfl
    | ⟨1, _⟩ => rfl
    | ⟨2, _⟩ => rfl
  rw [join_row, e2, dat_x]
  exact (congrFun (read_x fun b => m ((G.perm.symm (c, p)).1, b)) _).trans (split_row _ _ j)

include h hx ha in
/-- Device `c` ends with block `c` of the reference's result. -/
theorem out_block (G : (dat m).Good) (c : Dev nD) :
    (extf .f32 (shapeCast S1024x512 (G.outv c) shapeCasts_S1024x4x128_S1024x512) bitsLt_bf16_f32 : FVec F S1024x512 .f32)
      = Layout.block ⟨2, ![1024, 512]⟩ ⟨2, ![16384, 512]⟩ 0 16 c (sorted (F := F) x' a') := by
  have hk : ∀ k : Fin 16384, (a' (ix1 k)).toNat < 16 := fun k => by
    obtain ⟨q, rfl⟩ := glob.surjective k
    rw [dest_glob m a' ha]
    exact (h q.1).lt q.2
  rw [Cert.Sorted.sorted_eq x' a' hk (source_lists m h a' ha G)]
  refine wide_block _ _ c (funext fun i => ?_)
  obtain ⟨p, j, rfl⟩ : ∃ (p : Fin 1024) (j : Fin 512), i = ix2 p j := ⟨_, _, eq_ix2 i⟩
  rw [out_glob m x' hx G c p j, Layout.block_apply, tile_glob _ (c, p) j]

end Agree

/-- THE TWO PROGRAMS AGREE. -/
theorem same : Cert.algebraic_KernelIdeal_ReferenceIdeal := by
  intro m g m' g' hpre hagree
  have h : ∀ c, Even (destOf (F := Ideal) m c) := fun c => even_of_pre _ _ (hpre c)
  have G := good (F := Ideal) m h
  refine ⟨sorted (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run (defs (F := Ideal)) _ _).mono (fun r hr c => ⟨(hr.1 c).1.trans (out_block (F := Ideal) m h _ _
      (fun c => (hagree c).1) (fun c => (hagree c).2) G c), (hr.1 c).2⟩) (run_ends (F := Ideal) m G g)
  · exact (θ_run (Cert.ReferenceIdeal.defs (F := Ideal)) _ _).mono (fun r hr => hr 0) (Cert.Sorted.run_line (F := Ideal) m' g')

end Cert.Route

end
-- ==== Proof.lean ====
/-
The certificate: both programs' runs end with the arguments as launched and every semaphore at zero, and device `c` of the
kernel's launch ends with block `c` of the reference's result.
-/
module

public import proofs.«01_k».proof.Defs
public import proofs.«01_k».proof.Proof.Same

@[expose] public section

namespace Cert.Proof

/-- Every claim, with the side conditions the programs state. -/
theorem claim : Cert.Claim :=
  ⟨Cert.Kernel.Gen.facts, Cert.KernelIdeal.Gen.facts, Cert.ReferenceIdeal.Gen.facts, Cert.Pre_even_Kernel.Gen.facts,
    Cert.Pre_even_ReferenceIdeal.Gen.facts, Cert.Route.frame_kernel, Cert.Route.frame_ideal, Cert.Sorted.frame_reference,
    Cert.Sorted.frame_reference_even, trivial, Cert.Route.same⟩

end Cert.Proof

end
